-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_linear_array [hPre_linear_array : Cert.Pre_linear_array.Facts] (m : (ℓ : Loc Cert.KernelIdeal.nD Cert.KernelIdeal.τ Cert.KernelIdeal.sig) → Buf (Elt Ideal) ℓ) : Prop :=
  ∀ c : Dev Cert.KernelIdeal.nD,
    (Cert.Pre_linear_array.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_linear_array [hPre_linear_array : Cert.Pre_linear_array.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_linear_array.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_linear_array [hKernelIdeal : Cert.KernelIdeal.Facts] [hPre_linear_array : Cert.Pre_linear_array.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_linear_array m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_linear_array [hReferenceIdeal : Cert.ReferenceIdeal.Facts] [hPre_linear_array : Cert.Pre_linear_array.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_linear_array m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_linear_array [hKernelIdeal : Cert.KernelIdeal.Facts] [hReferenceIdeal : Cert.ReferenceIdeal.Facts] [hPre_linear_array : Cert.Pre_linear_array.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_linear_array m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10_5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_linear_array : Cert.Pre_linear_array.Facts),
    quiescent_Kernel (hKernel := hKernel)
    ∧ quiescent_KernelIdeal (hKernelIdeal := hKernelIdeal)
    ∧ quiescent_KernelIdeal_pre_linear_array (hKernelIdeal := hKernelIdeal) (hPre_linear_array := hPre_linear_array)
    ∧ quiescent_ReferenceIdeal (hReferenceIdeal := hReferenceIdeal)
    ∧ quiescent_ReferenceIdeal_pre_linear_array (hReferenceIdeal := hReferenceIdeal) (hPre_linear_array := hPre_linear_array)
    ∧ preserves_Kernel_KernelIdeal
    ∧ algebraic_KernelIdeal_ReferenceIdeal_pre_linear_array (hKernelIdeal := hKernelIdeal) (hReferenceIdeal := hReferenceIdeal) (hPre_linear_array := hPre_linear_array)
-- ==== Pre_linear_array.lean ====
abbrev S4x2x512x2048 : Shape := ⟨4, ![4, 2, 512, 2048]⟩
abbrev S512x2 : Shape := ⟨2, ![512, 2]⟩
abbrev S512x1 : Shape := ⟨2, ![512, 1]⟩
abbrev S512 : Shape := ⟨1, ![512]⟩
abbrev S_ : Shape := ⟨0, ![]⟩
abbrev S1 : Shape := ⟨1, ![1]⟩

class Facts : Prop where
  slices_S512x2_S512x1_0_0 : S512x2.Slices ![0, 0] S512x1
  shapeCasts_S512x1_S512 : S512x1.ShapeCasts S512
  slices_S512x2_S512x1_0_1 : S512x2.Slices ![0, 1] S512x1
  bcast_S_S512 : S_.BroadcastsInDim S512 (![] : Fin 0 → Fin S512.rank)
  slices_S512_S1_0 : S512.Slices ![0] S1
  shapeCasts_S1_S_ : S1.ShapeCasts S_
  reducesTo_S512_S_d0 : S512.ReducesTo [0] S_
  h_S_ : 0 < S_.numel

variable [Facts]

def fn {F : FTy → Type} [FloatOps F] (main_arg0 : FVec F S4x2x512x2048 .f32) (main_arg1 : IVec S512x2 32) : IVec S_ 1 :=
  let main_v0 : IVec S512x1 32 := (extractStridedSlice S512x1 ![0, 0] · slices_S512x2_S512x1_0_0) main_arg1
  let main_v1 : IVec S512 32 := shapeCast S512 main_v0 shapeCasts_S512x1_S512
  let main_v2 : IVec S512x1 32 := (extractStridedSlice S512x1 ![0, 1] · slices_S512x2_S512x1_0_1) main_arg1
  let main_v3 : IVec S512 32 := shapeCast S512 main_v2 shapeCasts_S512x1_S512
  let main_v4 : IVec S512 32 := iotaInDim S512 32 0
  let main_c : IVec S_ 32 := constantI S_ 32 1#32
  let main_v5 : IVec S512 32 := broadcastInDim S512 ![] bcast_S_S512 main_c
  let main_v6 : IVec S512 32 := addi main_v5 main_v4
  let main_v7 : IVec S512 1 := cmpi .eq main_v1 main_v6
  let main_v8 : IVec S1 32 := (extractStridedSlice S1 ![0] · slices_S512_S1_0) main_v3
  let main_v9 : IVec S_ 32 := shapeCast S_ main_v8 shapeCasts_S1_S_
  let main_v10 : IVec S512 32 := broadcastInDim S512 ![] bcast_S_S512 main_v9
  let main_v11 : IVec S512 1 := cmpi .eq main_v3 main_v10
  let main_v12 : IVec S512 1 := andi main_v7 main_v11
  let main_c_0 : IVec S_ 32 := constantI S_ 32 1#32
  let main_v13 : IVec S512 32 := broadcastInDim S512 ![] bcast_S_S512 main_c_0
  let main_v14 : IVec S512 1 := cmpi .sge main_v3 main_v13
  let main_v15 : IVec S512 1 := andi main_v12 main_v14
  let main_c_1 : IVec S_ 32 := constantI S_ 32 512#32
  let main_v16 : IVec S512 32 := broadcastInDim S512 ![] bcast_S_S512 main_c_1
  let main_v17 : IVec S512 1 := cmpi .sle main_v3 main_v16
  let main_v18 : IVec S512 1 := andi main_v15 main_v17
  let main_c_2 : IVec S_ 1 := constantI S_ 1 1#1
  let main_v19 : IVec S_ 1 := (fun x v => Host.reduce IntOp.andi x v reducesTo_S512_S_d0 h_S_) main_v18 main_c_2
  main_v19
-- ==== Kernel.lean ====
abbrev S4x2x512x2048 : Shape := ⟨4, ![4, 2, 512, 2048]⟩
abbrev S512x2 : Shape := ⟨2, ![512, 2]⟩
abbrev S8x512x2048 : Shape := ⟨3, ![8, 512, 2048]⟩
abbrev S1x2 : Shape := ⟨2, ![1, 2]⟩
abbrev S2 : Shape := ⟨1, ![2]⟩
abbrev S1024 : Shape := ⟨1, ![1024]⟩
abbrev S1024x1 : Shape := ⟨2, ![1024, 1]⟩
abbrev S512 : Shape := ⟨1, ![512]⟩
abbrev S_ : Shape := ⟨0, ![]⟩
abbrev S1x512 : Shape := ⟨2, ![1, 512]⟩
abbrev S1 : Shape := ⟨1, ![1]⟩
abbrev S1024x512 : Shape := ⟨2, ![1024, 512]⟩
abbrev S8x512x512 : Shape := ⟨3, ![8, 512, 512]⟩
abbrev S2x8x2048 : Shape := ⟨3, ![2, 8, 2048]⟩
abbrev S24x512 : Shape := ⟨2, ![24, 512]⟩
abbrev S2x16x512 : Shape := ⟨3, ![2, 16, 512]⟩
abbrev S16 : Shape := ⟨1, ![16]⟩
abbrev S1x1x16 : Shape := ⟨3, ![1, 1, 16]⟩
abbrev S1x8x2048 : Shape := ⟨3, ![1, 8, 2048]⟩
abbrev S8x2048 : Shape := ⟨2, ![8, 2048]⟩
abbrev S1x16 : Shape := ⟨2, ![1, 16]⟩
abbrev S1x16x512 : Shape := ⟨3, ![1, 16, 512]⟩
abbrev S16x512 : Shape := ⟨2, ![16, 512]⟩
abbrev S4x2x512x512 : Shape := ⟨4, ![4, 2, 512, 512]⟩

abbrev nBuf : Table → Nat
  | .hbm => 57
  | .local .scVector .vmem => 3
  | _ => 0

abbrev bufTy : (tb : Table) → Fin (nBuf tb) → BufTy
  | .hbm, ⟨0, _⟩ => ⟨S4x2x512x2048, .f32⟩
  | .hbm, ⟨1, _⟩ => ⟨S512x2, .i32⟩
  | .hbm, ⟨2, _⟩ => ⟨S8x512x2048, .f32⟩
  | .hbm, ⟨3, _⟩ => ⟨S1x2, .i32⟩
  | .hbm, ⟨4, _⟩ => ⟨S2, .i32⟩
  | .hbm, ⟨5, _⟩ => ⟨S1024, .f32⟩
  | .hbm, ⟨6, _⟩ => ⟨S1024x1, .f32⟩
  | .hbm, ⟨7, _⟩ => ⟨S512, .f32⟩
  | .hbm, ⟨8, _⟩ => ⟨S_, .f32⟩
  | .hbm, ⟨9, _⟩ => ⟨S512, .f32⟩
  | .hbm, ⟨10, _⟩ => ⟨S512, .f32⟩
  | .hbm, ⟨11, _⟩ => ⟨S1x512, .f32⟩
  | .hbm, ⟨12, _⟩ => ⟨S1, .i32⟩
  | .hbm, ⟨13, _⟩ => ⟨S_, .i32⟩
  | .hbm, ⟨14, _⟩ => ⟨S_, .f32⟩
  | .hbm, ⟨15, _⟩ => ⟨S1, .i32⟩
  | .hbm, ⟨16, _⟩ => ⟨S_, .i32⟩
  | .hbm, ⟨17, _⟩ => ⟨S_, .f32⟩
  | .hbm, ⟨18, _⟩ => ⟨S_, .f32⟩
  | .hbm, ⟨19, _⟩ => ⟨S1024x1, .f32⟩
  | .hbm, ⟨20, _⟩ => ⟨S1024x1, .f32⟩
  | .hbm, ⟨21, _⟩ => ⟨S1024x1, .f32⟩
  | .hbm, ⟨22, _⟩ => ⟨S1024x1, .f32⟩
  | .hbm, ⟨23, _⟩ => ⟨S1x512, .f32⟩
  | .hbm, ⟨24, _⟩ => ⟨S1x512, .f32⟩
  | .hbm, ⟨25, _⟩ => ⟨S_, .f32⟩
  | .hbm, ⟨26, _⟩ => ⟨S1x512, .f32⟩
  | .hbm, ⟨27, _⟩ => ⟨S1x512, .f32⟩
  | .hbm, ⟨28, _⟩ => ⟨S_, .f32⟩
  | .hbm, ⟨29, _⟩ => ⟨S1024x1, .f32⟩
  | .hbm, ⟨30, _⟩ => ⟨S1024x1, .f32⟩
  | .hbm, ⟨31, _⟩ => ⟨S1024x1, .f32⟩
  | .hbm, ⟨32, _⟩ => ⟨S_, .f32⟩
  | .hbm, ⟨33, _⟩ => ⟨S1x512, .f32⟩
  | .hbm, ⟨34, _⟩ => ⟨S1x512, .f32⟩
  | .hbm, ⟨35, _⟩ => ⟨S1x512, .f32⟩
  | .hbm, ⟨36, _⟩ => ⟨S1024x512, .f32⟩
  | .hbm, ⟨37, _⟩ => ⟨S1024x512, .f32⟩
  | .hbm, ⟨38, _⟩ => ⟨S1024x512, .f32⟩
  | .hbm, ⟨39, _⟩ => ⟨S1024x512, .f32⟩
  | .hbm, ⟨40, _⟩ => ⟨S_, .f32⟩
  | .hbm, ⟨41, _⟩ => ⟨S1024x512, .f32⟩
  | .hbm, ⟨42, _⟩ => ⟨S1024x512, .f32⟩
  | .hbm, ⟨43, _⟩ => ⟨S_, .f32⟩
  | .hbm, ⟨44, _⟩ => ⟨S1024x512, .f32⟩
  | .hbm, ⟨45, _⟩ => ⟨S1024x512, .f32⟩
  | .hbm, ⟨46, _⟩ => ⟨S1024x512, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S1024x512, .i32⟩
  | .hbm, ⟨51, _⟩ => ⟨S1024x512, .i32⟩
  | .hbm, ⟨52, _⟩ => ⟨S_, .i32⟩
  | .hbm, ⟨53, _⟩ => ⟨S1024x512, .i32⟩
  | .hbm, ⟨54, _⟩ => ⟨S1024x512, .i32⟩
  | .hbm, ⟨55, _⟩ => ⟨S8x512x512, .f32⟩
  | .hbm, ⟨56, _⟩ => ⟨S4x2x512x512, .f32⟩
  | .local .scVector .vmem, ⟨0, _⟩ => ⟨S2x8x2048, .f32⟩
  | .local .scVector .vmem, ⟨1, _⟩ => ⟨S24x512, .i32⟩
  | .local .scVector .vmem, ⟨2, _⟩ => ⟨S2x16x512, .f32⟩
  | _, _ => ⟨S4x2x512x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_1 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_3 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_4 : Ref sig .tc := ⟨.hbm, 40, rfl⟩
abbrev main_v33 : Ref sig .tc := ⟨.hbm, 41, rfl⟩
abbrev main_v34 : Ref sig .tc := ⟨.hbm, 42, rfl⟩
abbrev main_cst_5 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_c : Ref sig .tc := ⟨.hbm, 47, rfl⟩
abbrev main_c_6 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v0_scv : Ref sig .scVector := ⟨.hbm, 2, rfl⟩
abbrev main_v38_scv : Ref sig .scVector := ⟨.hbm, 54, rfl⟩
abbrev main_v39_scv : Ref sig .scVector := ⟨.hbm, 55, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c4_i32_2 : BitVec 32 := 4#32
  let v12 : BitVec 32 := Scalar.addi c0_i32_1 c4_i32_2
  let c1_i32_3 : BitVec 32 := 1#32
  ⟨c0_i32_1, v12, c1_i32_3⟩
@[reducible] def k0_t2_loop : Scf.Loop 32 :=
  let c0_i32_5 : BitVec 32 := 0#32
  let c512_i32 : BitVec 32 := 512#32
  let v13 : BitVec 32 := Scalar.addi c0_i32_5 c512_i32
  let c1_i32_6 : BitVec 32 := 1#32
  ⟨c0_i32_5, v13, c1_i32_6⟩
def k0_off1 (k0_t2 : Fin k0_t2_loop.trips) : Fin 3 → Nat :=
  let c0_i32_30 : BitVec 32 := 0#32
  let v47 : Index := Scalar.indexCast c0_i32_30
  let c0_i32_5 : BitVec 32 := 0#32
  let c1_i32_6 : BitVec 32 := 1#32
  let arg9 : BitVec 32 := Scf.iv c0_i32_5 c1_i32_6 k0_t2
  let c0_i32_17 : BitVec 32 := 0#32
  let v20 : BitVec 1 := Scalar.cmpi .sgt arg9 c0_i32_17
  let v21 : BitVec 32 := Scalar.extui v20
  let c0_i32_18 : BitVec 32 := 0#32
  let v22 : BitVec 1 := Scalar.cmpi .slt arg9 c0_i32_18
  let v23 : BitVec 32 := Scalar.extui v22
  let v24 : BitVec 32 := Scalar.subi v21 v23
  let c32_i32 : BitVec 32 := 32#32
  let c0_i32_19 : BitVec 32 := 0#32
  let v25 : BitVec 1 := Scalar.cmpi .sgt c32_i32 c0_i32_19
  let v26 : BitVec 32 := Scalar.extui v25
  let c0_i32_20 : BitVec 32 := 0#32
  let v27 : BitVec 1 := Scalar.cmpi .slt c32_i32 c0_i32_20
  let v28 : BitVec 32 := Scalar.extui v27
  let v29 : BitVec 32 := Scalar.subi v26 v28
  let v30 : BitVec 1 := Scalar.cmpi .ne v24 v29
  let v31 : BitVec 32 := Scalar.remsi arg9 c32_i32
  let c0_i32_21 : BitVec 32 := 0#32
  let v32 : BitVec 1 := Scalar.cmpi .ne v31 c0_i32_21
  let v33 : BitVec 1 := Scalar.andi v30 v32
  let v19 : BitVec 32 := Scalar.divsi arg9 c32_i32
  let c1_i32_22 : BitVec 32 := 1#32
  let v34 : BitVec 32 := Scalar.subi v19 c1_i32_22
  let v35 : BitVec 32 := Scalar.select v33 v34 v19
  let v48 : Index := Scalar.indexCast v35
  let c32_i32_23 : BitVec 32 := 32#32
  let c0_i32_24 : BitVec 32 := 0#32
  let v36 : BitVec 1 := Scalar.cmpi .eq c32_i32_23 c0_i32_24
  let c1_i32_25 : BitVec 32 := 1#32
  let v37 : BitVec 32 := Scalar.select v36 c1_i32_25 c32_i32_23
  let v38 : BitVec 32 := Scalar.remsi arg9 v37
  let c0_i32_27 : BitVec 32 := 0#32
  let v40 : BitVec 1 := Scalar.cmpi .slt v38 c0_i32_27
  let c0_i32_28 : BitVec 32 := 0#32
  let v41 : BitVec 1 := Scalar.cmpi .slt v37 c0_i32_28
  let v42 : BitVec 1 := Scalar.xori v40 v41
  let c0_i32_26 : BitVec 32 := 0#32
  let v39 : BitVec 1 := Scalar.cmpi .ne v38 c0_i32_26
  let v43 : BitVec 1 := Scalar.andi v42 v39
  let v44 : BitVec 32 := Scalar.addi v38 v37
  let v45 : BitVec 32 := Scalar.select v43 v44 v38
  let c16_i32_29 : BitVec 32 := 16#32
  let v46 : BitVec 32 := Scalar.muli v45 c16_i32_29
  let v49 : Index := Scalar.indexCast v46
  ![0, v48.toNat, v49.toNat]
def k0_off2 (k0_t2 : Fin k0_t2_loop.trips) : Fin 3 → Nat :=
  let c1_i32_31 : BitVec 32 := 1#32
  let v51 : Index := Scalar.indexCast c1_i32_31
  let c0_i32_5 : BitVec 32 := 0#32
  let c1_i32_6 : BitVec 32 := 1#32
  let arg9 : BitVec 32 := Scf.iv c0_i32_5 c1_i32_6 k0_t2
  let c0_i32_17 : BitVec 32 := 0#32
  let v20 : BitVec 1 := Scalar.cmpi .sgt arg9 c0_i32_17
  let v21 : BitVec 32 := Scalar.extui v20
  let c0_i32_18 : BitVec 32 := 0#32
  let v22 : BitVec 1 := Scalar.cmpi .slt arg9 c0_i32_18
  let v23 : BitVec 32 := Scalar.extui v22
  let v24 : BitVec 32 := Scalar.subi v21 v23
  let c32_i32 : BitVec 32 := 32#32
  let c0_i32_19 : BitVec 32 := 0#32
  let v25 : BitVec 1 := Scalar.cmpi .sgt c32_i32 c0_i32_19
  let v26 : BitVec 32 := Scalar.extui v25
  let c0_i32_20 : BitVec 32 := 0#32
  let v27 : BitVec 1 := Scalar.cmpi .slt c32_i32 c0_i32_20
  let v28 : BitVec 32 := Scalar.extui v27
  let v29 : BitVec 32 := Scalar.subi v26 v28
  let v30 : BitVec 1 := Scalar.cmpi .ne v24 v29
  let v31 : BitVec 32 := Scalar.remsi arg9 c32_i32
  let c0_i32_21 : BitVec 32 := 0#32
  let v32 : BitVec 1 := Scalar.cmpi .ne v31 c0_i32_21
  let v33 : BitVec 1 := Scalar.andi v30 v32
  let v19 : BitVec 32 := Scalar.divsi arg9 c32_i32
  let c1_i32_22 : BitVec 32 := 1#32
  let v34 : BitVec 32 := Scalar.subi v19 c1_i32_22
  let v35 : BitVec 32 := Scalar.select v33 v34 v19
  let v52 : Index := Scalar.indexCast v35
  let c32_i32_23 : BitVec 32 := 32#32
  let c0_i32_24 : BitVec 32 := 0#32
  let v36 : BitVec 1 := Scalar.cmpi .eq c32_i32_23 c0_i32_24
  let c1_i32_25 : BitVec 32 := 1#32
  let v37 : BitVec 32 := Scalar.select v36 c1_i32_25 c32_i32_23
  let v38 : BitVec 32 := Scalar.remsi arg9 v37
  let c0_i32_27 : BitVec 32 := 0#32
  let v40 : BitVec 1 := Scalar.cmpi .slt v38 c0_i32_27
  let c0_i32_28 : BitVec 32 := 0#32
  let v41 : BitVec 1 := Scalar.cmpi .slt v37 c0_i32_28
  let v42 : BitVec 1 := Scalar.xori v40 v41
  let c0_i32_26 : BitVec 32 := 0#32
  let v39 : BitVec 1 := Scalar.cmpi .ne v38 c0_i32_26
  let v43 : BitVec 1 := Scalar.andi v42 v39
  let v44 : BitVec 32 := Scalar.addi v38 v37
  let v45 : BitVec 32 := Scalar.select v43 v44 v38
  let c16_i32_29 : BitVec 32 := 16#32
  let v46 : BitVec 32 := Scalar.muli v45 c16_i32_29
  let v53 : Index := Scalar.indexCast v46
  ![1, v52.toNat, v53.toNat]
@[reducible] def k0_t3_loop : Scf.Loop 32 :=
  let c0_i32_8 : BitVec 32 := 0#32
  let c64_i32 : BitVec 32 := 64#32
  let v14 : BitVec 32 := Scalar.addi c0_i32_8 c64_i32
  let c1_i32_9 : BitVec 32 := 1#32
  ⟨c0_i32_8, v14, c1_i32_9⟩
def k0_off3 (k0_t1 : Fin k0_t1_loop.trips) (k0_t3 : Fin k0_t3_loop.trips) (c0_i32_18 : BitVec 32) : Fin 3 → Nat :=
  let c0_i32_1 : BitVec 32 := 0#32
  let c1_i32_3 : BitVec 32 := 1#32
  let arg8 : BitVec 32 := Scf.iv c0_i32_1 c1_i32_3 k0_t1
  let c2_i32_17 : BitVec 32 := 2#32
  let v20 : BitVec 32 := Scalar.muli arg8 c2_i32_17
  let v21 : BitVec 32 := Scalar.addi v20 c0_i32_18
  let c0_i32_8 : BitVec 32 := 0#32
  let c1_i32_9 : BitVec 32 := 1#32
  let arg9 : BitVec 32 := Scf.iv c0_i32_8 c1_i32_9 k0_t3
  let c8_i32 : BitVec 32 := 8#32
  let v19 : BitVec 32 := Scalar.muli arg9 c8_i32
  let c0_i32_29_r0 : BitVec 32 := 0#32
  ![v21.toNat, v19.toNat, 0]
def k0_off4 (i : grid0.Coords) (k0_t3 : Fin k0_t3_loop.trips) : Fin 2 → Nat :=
  let c0_i32_8 : BitVec 32 := 0#32
  let c1_i32_9 : BitVec 32 := 1#32
  let arg9 : BitVec 32 := Scf.iv c0_i32_8 c1_i32_9 k0_t3
  let c8_i32 : BitVec 32 := 8#32
  let v19 : BitVec 32 := Scalar.muli arg9 c8_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v24 : BitVec 32 := Scalar.subi v19 v2
  let c496_i32 : BitVec 32 := 496#32
  let v25 : BitVec 32 := Scalar.addi v24 c496_i32
  let c0_i32_27_r2 : BitVec 32 := 0#32
  ![v25.toNat, 0]
@[reducible] def k0_t4_loop : Scf.Loop 32 :=
  let c0_i32_23 : BitVec 32 := 0#32
  let c512_i32_24 : BitVec 32 := 512#32
  let v26 : BitVec 32 := Scalar.addi c0_i32_23 c512_i32_24
  let c1_i32_25 : BitVec 32 := 1#32
  ⟨c0_i32_23, v26, c1_i32_25⟩
def k0_off5 (k0_t4 : Fin k0_t4_loop.trips) : Fin 3 → Nat :=
  let c0_i32_40 : BitVec 32 := 0#32
  let v55 : Index := Scalar.indexCast c0_i32_40
  let c0_i32_23 : BitVec 32 := 0#32
  let c1_i32_25 : BitVec 32 := 1#32
  let arg10 : BitVec 32 := Scf.iv c0_i32_23 c1_i32_25 k0_t4
  let c0_i32_27 : BitVec 32 := 0#32
  let v28 : BitVec 1 := Scalar.cmpi .sgt arg10 c0_i32_27
  let v29 : BitVec 32 := Scalar.extui v28
  let c0_i32_28 : BitVec 32 := 0#32
  let v30 : BitVec 1 := Scalar.cmpi .slt arg10 c0_i32_28
  let v31 : BitVec 32 := Scalar.extui v30
  let v32 : BitVec 32 := Scalar.subi v29 v31
  let c32_i32 : BitVec 32 := 32#32
  let c0_i32_29 : BitVec 32 := 0#32
  let v33 : BitVec 1 := Scalar.cmpi .sgt c32_i32 c0_i32_29
  let v34 : BitVec 32 := Scalar.extui v33
  let c0_i32_30 : BitVec 32 := 0#32
  let v35 : BitVec 1 := Scalar.cmpi .slt c32_i32 c0_i32_30
  let v36 : BitVec 32 := Scalar.extui v35
  let v37 : BitVec 32 := Scalar.subi v34 v36
  let v38 : BitVec 1 := Scalar.cmpi .ne v32 v37
  let v39 : BitVec 32 := Scalar.remsi arg10 c32_i32
  let c0_i32_31 : BitVec 32 := 0#32
  let v40 : BitVec 1 := Scalar.cmpi .ne v39 c0_i32_31
  let v41 : BitVec 1 := Scalar.andi v38 v40
  let v27 : BitVec 32 := Scalar.divsi arg10 c32_i32
  let c1_i32_32 : BitVec 32 := 1#32
  let v42 : BitVec 32 := Scalar.subi v27 c1_i32_32
  let v43 : BitVec 32 := Scalar.select v41 v42 v27
  let v56 : Index := Scalar.indexCast v43
  let c32_i32_33 : BitVec 32 := 32#32
  let c0_i32_34 : BitVec 32 := 0#32
  let v44 : BitVec 1 := Scalar.cmpi .eq c32_i32_33 c0_i32_34
  let c1_i32_35 : BitVec 32 := 1#32
  let v45 : BitVec 32 := Scalar.select v44 c1_i32_35 c32_i32_33
  let v46 : BitVec 32 := Scalar.remsi arg10 v45
  let c0_i32_37 : BitVec 32 := 0#32
  let v48 : BitVec 1 := Scalar.cmpi .slt v46 c0_i32_37
  let c0_i32_38 : BitVec 32 := 0#32
  let v49 : BitVec 1 := Scalar.cmpi .slt v45 c0_i32_38
  let v50 : BitVec 1 := Scalar.xori v48 v49
  let c0_i32_36 : BitVec 32 := 0#32
  let v47 : BitVec 1 := Scalar.cmpi .ne v46 c0_i32_36
  let v51 : BitVec 1 := Scalar.andi v50 v47
  let v52 : BitVec 32 := Scalar.addi v46 v45
  let v53 : BitVec 32 := Scalar.select v51 v52 v46
  let c16_i32_39 : BitVec 32 := 16#32
  let v54 : BitVec 32 := Scalar.muli v53 c16_i32_39
  let v57 : Index := Scalar.indexCast v54
  ![0, v56.toNat, v57.toNat]
def k0_off6 (k0_t4 : Fin k0_t4_loop.trips) : Fin 3 → Nat :=
  let c1_i32_41 : BitVec 32 := 1#32
  let v59 : Index := Scalar.indexCast c1_i32_41
  let c0_i32_23 : BitVec 32 := 0#32
  let c1_i32_25 : BitVec 32 := 1#32
  let arg10 : BitVec 32 := Scf.iv c0_i32_23 c1_i32_25 k0_t4
  let c0_i32_27 : BitVec 32 := 0#32
  let v28 : BitVec 1 := Scalar.cmpi .sgt arg10 c0_i32_27
  let v29 : BitVec 32 := Scalar.extui v28
  let c0_i32_28 : BitVec 32 := 0#32
  let v30 : BitVec 1 := Scalar.cmpi .slt arg10 c0_i32_28
  let v31 : BitVec 32 := Scalar.extui v30
  let v32 : BitVec 32 := Scalar.subi v29 v31
  let c32_i32 : BitVec 32 := 32#32
  let c0_i32_29 : BitVec 32 := 0#32
  let v33 : BitVec 1 := Scalar.cmpi .sgt c32_i32 c0_i32_29
  let v34 : BitVec 32 := Scalar.extui v33
  let c0_i32_30 : BitVec 32 := 0#32
  let v35 : BitVec 1 := Scalar.cmpi .slt c32_i32 c0_i32_30
  let v36 : BitVec 32 := Scalar.extui v35
  let v37 : BitVec 32 := Scalar.subi v34 v36
  let v38 : BitVec 1 := Scalar.cmpi .ne v32 v37
  let v39 : BitVec 32 := Scalar.remsi arg10 c32_i32
  let c0_i32_31 : BitVec 32 := 0#32
  let v40 : BitVec 1 := Scalar.cmpi .ne v39 c0_i32_31
  let v41 : BitVec 1 := Scalar.andi v38 v40
  let v27 : BitVec 32 := Scalar.divsi arg10 c32_i32
  let c1_i32_32 : BitVec 32 := 1#32
  let v42 : BitVec 32 := Scalar.subi v27 c1_i32_32
  let v43 : BitVec 32 := Scalar.select v41 v42 v27
  let v60 : Index := Scalar.indexCast v43
  let c32_i32_33 : BitVec 32 := 32#32
  let c0_i32_34 : BitVec 32 := 0#32
  let v44 : BitVec 1 := Scalar.cmpi .eq c32_i32_33 c0_i32_34
  let c1_i32_35 : BitVec 32 := 1#32
  let v45 : BitVec 32 := Scalar.select v44 c1_i32_35 c32_i32_33
  let v46 : BitVec 32 := Scalar.remsi arg10 v45
  let c0_i32_37 : BitVec 32 := 0#32
  let v48 : BitVec 1 := Scalar.cmpi .slt v46 c0_i32_37
  let c0_i32_38 : BitVec 32 := 0#32
  let v49 : BitVec 1 := Scalar.cmpi .slt v45 c0_i32_38
  let v50 : BitVec 1 := Scalar.xori v48 v49
  let c0_i32_36 : BitVec 32 := 0#32
  let v47 : BitVec 1 := Scalar.cmpi .ne v46 c0_i32_36
  let v51 : BitVec 1 := Scalar.andi v50 v47
  let v52 : BitVec 32 := Scalar.addi v46 v45
  let v53 : BitVec 32 := Scalar.select v51 v52 v46
  let c16_i32_39 : BitVec 32 := 16#32
  let v54 : BitVec 32 := Scalar.muli v53 c16_i32_39
  let v61 : Index := Scalar.indexCast v54
  ![1, v60.toNat, v61.toNat]
def k0_off7 (k0_t4 : Fin k0_t4_loop.trips) : Fin 2 → Nat :=
  let c15_i32 : BitVec 32 := 15#32
  let c0_i32_23 : BitVec 32 := 0#32
  let c1_i32_25 : BitVec 32 := 1#32
  let arg10 : BitVec 32 := Scf.iv c0_i32_23 c1_i32_25 k0_t4
  let c0_i32_27 : BitVec 32 := 0#32
  let v28 : BitVec 1 := Scalar.cmpi .sgt arg10 c0_i32_27
  let v29 : BitVec 32 := Scalar.extui v28
  let c0_i32_28 : BitVec 32 := 0#32
  let v30 : BitVec 1 := Scalar.cmpi .slt arg10 c0_i32_28
  let v31 : BitVec 32 := Scalar.extui v30
  let v32 : BitVec 32 := Scalar.subi v29 v31
  let c32_i32 : BitVec 32 := 32#32
  let c0_i32_29 : BitVec 32 := 0#32
  let v33 : BitVec 1 := Scalar.cmpi .sgt c32_i32 c0_i32_29
  let v34 : BitVec 32 := Scalar.extui v33
  let c0_i32_30 : BitVec 32 := 0#32
  let v35 : BitVec 1 := Scalar.cmpi .slt c32_i32 c0_i32_30
  let v36 : BitVec 32 := Scalar.extui v35
  let v37 : BitVec 32 := Scalar.subi v34 v36
  let v38 : BitVec 1 := Scalar.cmpi .ne v32 v37
  let v39 : BitVec 32 := Scalar.remsi arg10 c32_i32
  let c0_i32_31 : BitVec 32 := 0#32
  let v40 : BitVec 1 := Scalar.cmpi .ne v39 c0_i32_31
  let v41 : BitVec 1 := Scalar.andi v38 v40
  let v27 : BitVec 32 := Scalar.divsi arg10 c32_i32
  let c1_i32_32 : BitVec 32 := 1#32
  let v42 : BitVec 32 := Scalar.subi v27 c1_i32_32
  let v43 : BitVec 32 := Scalar.select v41 v42 v27
  let v63 : BitVec 32 := Scalar.subi c15_i32 v43
  let v64 : Index := Scalar.indexCast v63
  let c32_i32_33 : BitVec 32 := 32#32
  let c0_i32_34 : BitVec 32 := 0#32
  let v44 : BitVec 1 := Scalar.cmpi .eq c32_i32_33 c0_i32_34
  let c1_i32_35 : BitVec 32 := 1#32
  let v45 : BitVec 32 := Scalar.select v44 c1_i32_35 c32_i32_33
  let v46 : BitVec 32 := Scalar.remsi arg10 v45
  let c0_i32_37 : BitVec 32 := 0#32
  let v48 : BitVec 1 := Scalar.cmpi .slt v46 c0_i32_37
  let c0_i32_38 : BitVec 32 := 0#32
  let v49 : BitVec 1 := Scalar.cmpi .slt v45 c0_i32_38
  let v50 : BitVec 1 := Scalar.xori v48 v49
  let c0_i32_36 : BitVec 32 := 0#32
  let v47 : BitVec 1 := Scalar.cmpi .ne v46 c0_i32_36
  let v51 : BitVec 1 := Scalar.andi v50 v47
  let v52 : BitVec 32 := Scalar.addi v46 v45
  let v53 : BitVec 32 := Scalar.select v51 v52 v46
  let c16_i32_39 : BitVec 32 := 16#32
  let v54 : BitVec 32 := Scalar.muli v53 c16_i32_39
  let v65 : Index := Scalar.indexCast v54
  ![v64.toNat, v65.toNat]

def k0_chk1 (v4 : IVec S16 32) (v66 : IVec S16 32) : Prop :=
  (∀ a x, ((![v4, v66] : Fin 2 → IVec S16 32) a x).toNat < S8x2048.size a) ∧
  (∀ a x, ((![v4, v66] : Fin 2 → IVec S16 32) a x).toNat < S8x2048.size a)
theorem k0_idx1_inb : ∀ (v4 : IVec S16 32) (v66 : IVec S16 32) (k0_hw1 : k0_chk1 v4 v66), ∀ a x, ((![v4, v66] : Fin 2 → IVec S16 32) a x).toNat < S8x2048.size a := fun v4 v66 k0_hw1 => k0_hw1.1
theorem k0_idx2_inb : ∀ (v4 : IVec S16 32) (v66 : IVec S16 32) (k0_hw1 : k0_chk1 v4 v66), ∀ a x, ((![v4, v66] : Fin 2 → IVec S16 32) a x).toNat < S8x2048.size a := fun v4 v66 k0_hw1 => k0_hw1.2
def k0_off8 (k0_t4 : Fin k0_t4_loop.trips) : Fin 2 → Nat :=
  let c16_i32_48 : BitVec 32 := 16#32
  let c0_i32_23 : BitVec 32 := 0#32
  let c1_i32_25 : BitVec 32 := 1#32
  let arg10 : BitVec 32 := Scf.iv c0_i32_23 c1_i32_25 k0_t4
  let c0_i32_27 : BitVec 32 := 0#32
  let v28 : BitVec 1 := Scalar.cmpi .sgt arg10 c0_i32_27
  let v29 : BitVec 32 := Scalar.extui v28
  let c0_i32_28 : BitVec 32 := 0#32
  let v30 : BitVec 1 := Scalar.cmpi .slt arg10 c0_i32_28
  let v31 : BitVec 32 := Scalar.extui v30
  let v32 : BitVec 32 := Scalar.subi v29 v31
  let c32_i32 : BitVec 32 := 32#32
  let c0_i32_29 : BitVec 32 := 0#32
  let v33 : BitVec 1 := Scalar.cmpi .sgt c32_i32 c0_i32_29
  let v34 : BitVec 32 := Scalar.extui v33
  let c0_i32_30 : BitVec 32 := 0#32
  let v35 : BitVec 1 := Scalar.cmpi .slt c32_i32 c0_i32_30
  let v36 : BitVec 32 := Scalar.extui v35
  let v37 : BitVec 32 := Scalar.subi v34 v36
  let v38 : BitVec 1 := Scalar.cmpi .ne v32 v37
  let v39 : BitVec 32 := Scalar.remsi arg10 c32_i32
  let c0_i32_31 : BitVec 32 := 0#32
  let v40 : BitVec 1 := Scalar.cmpi .ne v39 c0_i32_31
  let v41 : BitVec 1 := Scalar.andi v38 v40
  let v27 : BitVec 32 := Scalar.divsi arg10 c32_i32
  let c1_i32_32 : BitVec 32 := 1#32
  let v42 : BitVec 32 := Scalar.subi v27 c1_i32_32
  let v43 : BitVec 32 := Scalar.select v41 v42 v27
  let v75 : BitVec 32 := Scalar.subi c16_i32_48 v43
  let v76 : Index := Scalar.indexCast v75
  let c32_i32_33 : BitVec 32 := 32#32
  let c0_i32_34 : BitVec 32 := 0#32
  let v44 : BitVec 1 := Scalar.cmpi .eq c32_i32_33 c0_i32_34
  let c1_i32_35 : BitVec 32 := 1#32
  let v45 : BitVec 32 := Scalar.select v44 c1_i32_35 c32_i32_33
  let v46 : BitVec 32 := Scalar.remsi arg10 v45
  let c0_i32_37 : BitVec 32 := 0#32
  let v48 : BitVec 1 := Scalar.cmpi .slt v46 c0_i32_37
  let c0_i32_38 : BitVec 32 := 0#32
  let v49 : BitVec 1 := Scalar.cmpi .slt v45 c0_i32_38
  let v50 : BitVec 1 := Scalar.xori v48 v49
  let c0_i32_36 : BitVec 32 := 0#32
  let v47 : BitVec 1 := Scalar.cmpi .ne v46 c0_i32_36
  let v51 : BitVec 1 := Scalar.andi v50 v47
  let v52 : BitVec 32 := Scalar.addi v46 v45
  let v53 : BitVec 32 := Scalar.select v51 v52 v46
  let c16_i32_39 : BitVec 32 := 16#32
  let v54 : BitVec 32 := Scalar.muli v53 c16_i32_39
  let v77 : Index := Scalar.indexCast v54
  ![v76.toNat, v77.toNat]

def k0_chk2 (v5 : IVec S16 32) (v78 : IVec S16 32) : Prop :=
  (∀ a x, ((![v5, v78] : Fin 2 → IVec S16 32) a x).toNat < S8x2048.size a) ∧
  (∀ a x, ((![v5, v78] : Fin 2 → IVec S16 32) a x).toNat < S8x2048.size a)
theorem k0_idx3_inb : ∀ (v5 : IVec S16 32) (v78 : IVec S16 32) (k0_hw2 : k0_chk2 v5 v78), ∀ a x, ((![v5, v78] : Fin 2 → IVec S16 32) a x).toNat < S8x2048.size a := fun v5 v78 k0_hw2 => k0_hw2.1
theorem k0_idx4_inb : ∀ (v5 : IVec S16 32) (v78 : IVec S16 32) (k0_hw2 : k0_chk2 v5 v78), ∀ a x, ((![v5, v78] : Fin 2 → IVec S16 32) a x).toNat < S8x2048.size a := fun v5 v78 k0_hw2 => k0_hw2.2
def k0_off9 (k0_t4 : Fin k0_t4_loop.trips) : Fin 2 → Nat :=
  let c17_i32 : BitVec 32 := 17#32
  let c0_i32_23 : BitVec 32 := 0#32
  let c1_i32_25 : BitVec 32 := 1#32
  let arg10 : BitVec 32 := Scf.iv c0_i32_23 c1_i32_25 k0_t4
  let c0_i32_27 : BitVec 32 := 0#32
  let v28 : BitVec 1 := Scalar.cmpi .sgt arg10 c0_i32_27
  let v29 : BitVec 32 := Scalar.extui v28
  let c0_i32_28 : BitVec 32 := 0#32
  let v30 : BitVec 1 := Scalar.cmpi .slt arg10 c0_i32_28
  let v31 : BitVec 32 := Scalar.extui v30
  let v32 : BitVec 32 := Scalar.subi v29 v31
  let c32_i32 : BitVec 32 := 32#32
  let c0_i32_29 : BitVec 32 := 0#32
  let v33 : BitVec 1 := Scalar.cmpi .sgt c32_i32 c0_i32_29
  let v34 : BitVec 32 := Scalar.extui v33
  let c0_i32_30 : BitVec 32 := 0#32
  let v35 : BitVec 1 := Scalar.cmpi .slt c32_i32 c0_i32_30
  let v36 : BitVec 32 := Scalar.extui v35
  let v37 : BitVec 32 := Scalar.subi v34 v36
  let v38 : BitVec 1 := Scalar.cmpi .ne v32 v37
  let v39 : BitVec 32 := Scalar.remsi arg10 c32_i32
  let c0_i32_31 : BitVec 32 := 0#32
  let v40 : BitVec 1 := Scalar.cmpi .ne v39 c0_i32_31
  let v41 : BitVec 1 := Scalar.andi v38 v40
  let v27 : BitVec 32 := Scalar.divsi arg10 c32_i32
  let c1_i32_32 : BitVec 32 := 1#32
  let v42 : BitVec 32 := Scalar.subi v27 c1_i32_32
  let v43 : BitVec 32 := Scalar.select v41 v42 v27
  let v87 : BitVec 32 := Scalar.subi c17_i32 v43
  let v88 : Index := Scalar.indexCast v87
  let c32_i32_33 : BitVec 32 := 32#32
  let c0_i32_34 : BitVec 32 := 0#32
  let v44 : BitVec 1 := Scalar.cmpi .eq c32_i32_33 c0_i32_34
  let c1_i32_35 : BitVec 32 := 1#32
  let v45 : BitVec 32 := Scalar.select v44 c1_i32_35 c32_i32_33
  let v46 : BitVec 32 := Scalar.remsi arg10 v45
  let c0_i32_37 : BitVec 32 := 0#32
  let v48 : BitVec 1 := Scalar.cmpi .slt v46 c0_i32_37
  let c0_i32_38 : BitVec 32 := 0#32
  let v49 : BitVec 1 := Scalar.cmpi .slt v45 c0_i32_38
  let v50 : BitVec 1 := Scalar.xori v48 v49
  let c0_i32_36 : BitVec 32 := 0#32
  let v47 : BitVec 1 := Scalar.cmpi .ne v46 c0_i32_36
  let v51 : BitVec 1 := Scalar.andi v50 v47
  let v52 : BitVec 32 := Scalar.addi v46 v45
  let v53 : BitVec 32 := Scalar.select v51 v52 v46
  let c16_i32_39 : BitVec 32 := 16#32
  let v54 : BitVec 32 := Scalar.muli v53 c16_i32_39
  let v89 : Index := Scalar.indexCast v54
  ![v88.toNat, v89.toNat]

def k0_chk3 (v6 : IVec S16 32) (v90 : IVec S16 32) : Prop :=
  (∀ a x, ((![v6, v90] : Fin 2 → IVec S16 32) a x).toNat < S8x2048.size a) ∧
  (∀ a x, ((![v6, v90] : Fin 2 → IVec S16 32) a x).toNat < S8x2048.size a)
theorem k0_idx5_inb : ∀ (v6 : IVec S16 32) (v90 : IVec S16 32) (k0_hw3 : k0_chk3 v6 v90), ∀ a x, ((![v6, v90] : Fin 2 → IVec S16 32) a x).toNat < S8x2048.size a := fun v6 v90 k0_hw3 => k0_hw3.1
theorem k0_idx6_inb : ∀ (v6 : IVec S16 32) (v90 : IVec S16 32) (k0_hw3 : k0_chk3 v6 v90), ∀ a x, ((![v6, v90] : Fin 2 → IVec S16 32) a x).toNat < S8x2048.size a := fun v6 v90 k0_hw3 => k0_hw3.2
def k0_off10 (k0_t4 : Fin k0_t4_loop.trips) : Fin 2 → Nat :=
  let c18_i32 : BitVec 32 := 18#32
  let c0_i32_23 : BitVec 32 := 0#32
  let c1_i32_25 : BitVec 32 := 1#32
  let arg10 : BitVec 32 := Scf.iv c0_i32_23 c1_i32_25 k0_t4
  let c0_i32_27 : BitVec 32 := 0#32
  let v28 : BitVec 1 := Scalar.cmpi .sgt arg10 c0_i32_27
  let v29 : BitVec 32 := Scalar.extui v28
  let c0_i32_28 : BitVec 32 := 0#32
  let v30 : BitVec 1 := Scalar.cmpi .slt arg10 c0_i32_28
  let v31 : BitVec 32 := Scalar.extui v30
  let v32 : BitVec 32 := Scalar.subi v29 v31
  let c32_i32 : BitVec 32 := 32#32
  let c0_i32_29 : BitVec 32 := 0#32
  let v33 : BitVec 1 := Scalar.cmpi .sgt c32_i32 c0_i32_29
  let v34 : BitVec 32 := Scalar.extui v33
  let c0_i32_30 : BitVec 32 := 0#32
  let v35 : BitVec 1 := Scalar.cmpi .slt c32_i32 c0_i32_30
  let v36 : BitVec 32 := Scalar.extui v35
  let v37 : BitVec 32 := Scalar.subi v34 v36
  let v38 : BitVec 1 := Scalar.cmpi .ne v32 v37
  let v39 : BitVec 32 := Scalar.remsi arg10 c32_i32
  let c0_i32_31 : BitVec 32 := 0#32
  let v40 : BitVec 1 := Scalar.cmpi .ne v39 c0_i32_31
  let v41 : BitVec 1 := Scalar.andi v38 v40
  let v27 : BitVec 32 := Scalar.divsi arg10 c32_i32
  let c1_i32_32 : BitVec 32 := 1#32
  let v42 : BitVec 32 := Scalar.subi v27 c1_i32_32
  let v43 : BitVec 32 := Scalar.select v41 v42 v27
  let v99 : BitVec 32 := Scalar.subi c18_i32 v43
  let v100 : Index := Scalar.indexCast v99
  let c32_i32_33 : BitVec 32 := 32#32
  let c0_i32_34 : BitVec 32 := 0#32
  let v44 : BitVec 1 := Scalar.cmpi .eq c32_i32_33 c0_i32_34
  let c1_i32_35 : BitVec 32 := 1#32
  let v45 : BitVec 32 := Scalar.select v44 c1_i32_35 c32_i32_33
  let v46 : BitVec 32 := Scalar.remsi arg10 v45
  let c0_i32_37 : BitVec 32 := 0#32
  let v48 : BitVec 1 := Scalar.cmpi .slt v46 c0_i32_37
  let c0_i32_38 : BitVec 32 := 0#32
  let v49 : BitVec 1 := Scalar.cmpi .slt v45 c0_i32_38
  let v50 : BitVec 1 := Scalar.xori v48 v49
  let c0_i32_36 : BitVec 32 := 0#32
  let v47 : BitVec 1 := Scalar.cmpi .ne v46 c0_i32_36
  let v51 : BitVec 1 := Scalar.andi v50 v47
  let v52 : BitVec 32 := Scalar.addi v46 v45
  let v53 : BitVec 32 := Scalar.select v51 v52 v46
  let c16_i32_39 : BitVec 32 := 16#32
  let v54 : BitVec 32 := Scalar.muli v53 c16_i32_39
  let v101 : Index := Scalar.indexCast v54
  ![v100.toNat, v101.toNat]

def k0_chk4 (v7 : IVec S16 32) (v102 : IVec S16 32) : Prop :=
  (∀ a x, ((![v7, v102] : Fin 2 → IVec S16 32) a x).toNat < S8x2048.size a) ∧
  (∀ a x, ((![v7, v102] : Fin 2 → IVec S16 32) a x).toNat < S8x2048.size a)
theorem k0_idx7_inb : ∀ (v7 : IVec S16 32) (v102 : IVec S16 32) (k0_hw4 : k0_chk4 v7 v102), ∀ a x, ((![v7, v102] : Fin 2 → IVec S16 32) a x).toNat < S8x2048.size a := fun v7 v102 k0_hw4 => k0_hw4.1
theorem k0_idx8_inb : ∀ (v7 : IVec S16 32) (v102 : IVec S16 32) (k0_hw4 : k0_chk4 v7 v102), ∀ a x, ((![v7, v102] : Fin 2 → IVec S16 32) a x).toNat < S8x2048.size a := fun v7 v102 k0_hw4 => k0_hw4.2
def k0_off11 (k0_t4 : Fin k0_t4_loop.trips) : Fin 2 → Nat :=
  let c19_i32 : BitVec 32 := 19#32
  let c0_i32_23 : BitVec 32 := 0#32
  let c1_i32_25 : BitVec 32 := 1#32
  let arg10 : BitVec 32 := Scf.iv c0_i32_23 c1_i32_25 k0_t4
  let c0_i32_27 : BitVec 32 := 0#32
  let v28 : BitVec 1 := Scalar.cmpi .sgt arg10 c0_i32_27
  let v29 : BitVec 32 := Scalar.extui v28
  let c0_i32_28 : BitVec 32 := 0#32
  let v30 : BitVec 1 := Scalar.cmpi .slt arg10 c0_i32_28
  let v31 : BitVec 32 := Scalar.extui v30
  let v32 : BitVec 32 := Scalar.subi v29 v31
  let c32_i32 : BitVec 32 := 32#32
  let c0_i32_29 : BitVec 32 := 0#32
  let v33 : BitVec 1 := Scalar.cmpi .sgt c32_i32 c0_i32_29
  let v34 : BitVec 32 := Scalar.extui v33
  let c0_i32_30 : BitVec 32 := 0#32
  let v35 : BitVec 1 := Scalar.cmpi .slt c32_i32 c0_i32_30
  let v36 : BitVec 32 := Scalar.extui v35
  let v37 : BitVec 32 := Scalar.subi v34 v36
  let v38 : BitVec 1 := Scalar.cmpi .ne v32 v37
  let v39 : BitVec 32 := Scalar.remsi arg10 c32_i32
  let c0_i32_31 : BitVec 32 := 0#32
  let v40 : BitVec 1 := Scalar.cmpi .ne v39 c0_i32_31
  let v41 : BitVec 1 := Scalar.andi v38 v40
  let v27 : BitVec 32 := Scalar.divsi arg10 c32_i32
  let c1_i32_32 : BitVec 32 := 1#32
  let v42 : BitVec 32 := Scalar.subi v27 c1_i32_32
  let v43 : BitVec 32 := Scalar.select v41 v42 v27
  let v111 : BitVec 32 := Scalar.subi c19_i32 v43
  let v112 : Index := Scalar.indexCast v111
  let c32_i32_33 : BitVec 32 := 32#32
  let c0_i32_34 : BitVec 32 := 0#32
  let v44 : BitVec 1 := Scalar.cmpi .eq c32_i32_33 c0_i32_34
  let c1_i32_35 : BitVec 32 := 1#32
  let v45 : BitVec 32 := Scalar.select v44 c1_i32_35 c32_i32_33
  let v46 : BitVec 32 := Scalar.remsi arg10 v45
  let c0_i32_37 : BitVec 32 := 0#32
  let v48 : BitVec 1 := Scalar.cmpi .slt v46 c0_i32_37
  let c0_i32_38 : BitVec 32 := 0#32
  let v49 : BitVec 1 := Scalar.cmpi .slt v45 c0_i32_38
  let v50 : BitVec 1 := Scalar.xori v48 v49
  let c0_i32_36 : BitVec 32 := 0#32
  let v47 : BitVec 1 := Scalar.cmpi .ne v46 c0_i32_36
  let v51 : BitVec 1 := Scalar.andi v50 v47
  let v52 : BitVec 32 := Scalar.addi v46 v45
  let v53 : BitVec 32 := Scalar.select v51 v52 v46
  let c16_i32_39 : BitVec 32 := 16#32
  let v54 : BitVec 32 := Scalar.muli v53 c16_i32_39
  let v113 : Index := Scalar.indexCast v54
  ![v112.toNat, v113.toNat]

def k0_chk5 (v8 : IVec S16 32) (v114 : IVec S16 32) : Prop :=
  (∀ a x, ((![v8, v114] : Fin 2 → IVec S16 32) a x).toNat < S8x2048.size a) ∧
  (∀ a x, ((![v8, v114] : Fin 2 → IVec S16 32) a x).toNat < S8x2048.size a)
theorem k0_idx9_inb : ∀ (v8 : IVec S16 32) (v114 : IVec S16 32) (k0_hw5 : k0_chk5 v8 v114), ∀ a x, ((![v8, v114] : Fin 2 → IVec S16 32) a x).toNat < S8x2048.size a := fun v8 v114 k0_hw5 => k0_hw5.1
theorem k0_idx10_inb : ∀ (v8 : IVec S16 32) (v114 : IVec S16 32) (k0_hw5 : k0_chk5 v8 v114), ∀ a x, ((![v8, v114] : Fin 2 → IVec S16 32) a x).toNat < S8x2048.size a := fun v8 v114 k0_hw5 => k0_hw5.2
def k0_off12 (k0_t4 : Fin k0_t4_loop.trips) : Fin 2 → Nat :=
  let c20_i32 : BitVec 32 := 20#32
  let c0_i32_23 : BitVec 32 := 0#32
  let c1_i32_25 : BitVec 32 := 1#32
  let arg10 : BitVec 32 := Scf.iv c0_i32_23 c1_i32_25 k0_t4
  let c0_i32_27 : BitVec 32 := 0#32
  let v28 : BitVec 1 := Scalar.cmpi .sgt arg10 c0_i32_27
  let v29 : BitVec 32 := Scalar.extui v28
  let c0_i32_28 : BitVec 32 := 0#32
  let v30 : BitVec 1 := Scalar.cmpi .slt arg10 c0_i32_28
  let v31 : BitVec 32 := Scalar.extui v30
  let v32 : BitVec 32 := Scalar.subi v29 v31
  let c32_i32 : BitVec 32 := 32#32
  let c0_i32_29 : BitVec 32 := 0#32
  let v33 : BitVec 1 := Scalar.cmpi .sgt c32_i32 c0_i32_29
  let v34 : BitVec 32 := Scalar.extui v33
  let c0_i32_30 : BitVec 32 := 0#32
  let v35 : BitVec 1 := Scalar.cmpi .slt c32_i32 c0_i32_30
  let v36 : BitVec 32 := Scalar.extui v35
  let v37 : BitVec 32 := Scalar.subi v34 v36
  let v38 : BitVec 1 := Scalar.cmpi .ne v32 v37
  let v39 : BitVec 32 := Scalar.remsi arg10 c32_i32
  let c0_i32_31 : BitVec 32 := 0#32
  let v40 : BitVec 1 := Scalar.cmpi .ne v39 c0_i32_31
  let v41 : BitVec 1 := Scalar.andi v38 v40
  let v27 : BitVec 32 := Scalar.divsi arg10 c32_i32
  let c1_i32_32 : BitVec 32 := 1#32
  let v42 : BitVec 32 := Scalar.subi v27 c1_i32_32
  let v43 : BitVec 32 := Scalar.select v41 v42 v27
  let v123 : BitVec 32 := Scalar.subi c20_i32 v43
  let v124 : Index := Scalar.indexCast v123
  let c32_i32_33 : BitVec 32 := 32#32
  let c0_i32_34 : BitVec 32 := 0#32
  let v44 : BitVec 1 := Scalar.cmpi .eq c32_i32_33 c0_i32_34
  let c1_i32_35 : BitVec 32 := 1#32
  let v45 : BitVec 32 := Scalar.select v44 c1_i32_35 c32_i32_33
  let v46 : BitVec 32 := Scalar.remsi arg10 v45
  let c0_i32_37 : BitVec 32 := 0#32
  let v48 : BitVec 1 := Scalar.cmpi .slt v46 c0_i32_37
  let c0_i32_38 : BitVec 32 := 0#32
  let v49 : BitVec 1 := Scalar.cmpi .slt v45 c0_i32_38
  let v50 : BitVec 1 := Scalar.xori v48 v49
  let c0_i32_36 : BitVec 32 := 0#32
  let v47 : BitVec 1 := Scalar.cmpi .ne v46 c0_i32_36
  let v51 : BitVec 1 := Scalar.andi v50 v47
  let v52 : BitVec 32 := Scalar.addi v46 v45
  let v53 : BitVec 32 := Scalar.select v51 v52 v46
  let c16_i32_39 : BitVec 32 := 16#32
  let v54 : BitVec 32 := Scalar.muli v53 c16_i32_39
  let v125 : Index := Scalar.indexCast v54
  ![v124.toNat, v125.toNat]

def k0_chk6 (v9 : IVec S16 32) (v126 : IVec S16 32) : Prop :=
  (∀ a x, ((![v9, v126] : Fin 2 → IVec S16 32) a x).toNat < S8x2048.size a) ∧
  (∀ a x, ((![v9, v126] : Fin 2 → IVec S16 32) a x).toNat < S8x2048.size a)
theorem k0_idx11_inb : ∀ (v9 : IVec S16 32) (v126 : IVec S16 32) (k0_hw6 : k0_chk6 v9 v126), ∀ a x, ((![v9, v126] : Fin 2 → IVec S16 32) a x).toNat < S8x2048.size a := fun v9 v126 k0_hw6 => k0_hw6.1
theorem k0_idx12_inb : ∀ (v9 : IVec S16 32) (v126 : IVec S16 32) (k0_hw6 : k0_chk6 v9 v126), ∀ a x, ((![v9, v126] : Fin 2 → IVec S16 32) a x).toNat < S8x2048.size a := fun v9 v126 k0_hw6 => k0_hw6.2
def k0_off13 (k0_t4 : Fin k0_t4_loop.trips) : Fin 2 → Nat :=
  let c21_i32 : BitVec 32 := 21#32
  let c0_i32_23 : BitVec 32 := 0#32
  let c1_i32_25 : BitVec 32 := 1#32
  let arg10 : BitVec 32 := Scf.iv c0_i32_23 c1_i32_25 k0_t4
  let c0_i32_27 : BitVec 32 := 0#32
  let v28 : BitVec 1 := Scalar.cmpi .sgt arg10 c0_i32_27
  let v29 : BitVec 32 := Scalar.extui v28
  let c0_i32_28 : BitVec 32 := 0#32
  let v30 : BitVec 1 := Scalar.cmpi .slt arg10 c0_i32_28
  let v31 : BitVec 32 := Scalar.extui v30
  let v32 : BitVec 32 := Scalar.subi v29 v31
  let c32_i32 : BitVec 32 := 32#32
  let c0_i32_29 : BitVec 32 := 0#32
  let v33 : BitVec 1 := Scalar.cmpi .sgt c32_i32 c0_i32_29
  let v34 : BitVec 32 := Scalar.extui v33
  let c0_i32_30 : BitVec 32 := 0#32
  let v35 : BitVec 1 := Scalar.cmpi .slt c32_i32 c0_i32_30
  let v36 : BitVec 32 := Scalar.extui v35
  let v37 : BitVec 32 := Scalar.subi v34 v36
  let v38 : BitVec 1 := Scalar.cmpi .ne v32 v37
  let v39 : BitVec 32 := Scalar.remsi arg10 c32_i32
  let c0_i32_31 : BitVec 32 := 0#32
  let v40 : BitVec 1 := Scalar.cmpi .ne v39 c0_i32_31
  let v41 : BitVec 1 := Scalar.andi v38 v40
  let v27 : BitVec 32 := Scalar.divsi arg10 c32_i32
  let c1_i32_32 : BitVec 32 := 1#32
  let v42 : BitVec 32 := Scalar.subi v27 c1_i32_32
  let v43 : BitVec 32 := Scalar.select v41 v42 v27
  let v135 : BitVec 32 := Scalar.subi c21_i32 v43
  let v136 : Index := Scalar.indexCast v135
  let c32_i32_33 : BitVec 32 := 32#32
  let c0_i32_34 : BitVec 32 := 0#32
  let v44 : BitVec 1 := Scalar.cmpi .eq c32_i32_33 c0_i32_34
  let c1_i32_35 : BitVec 32 := 1#32
  let v45 : BitVec 32 := Scalar.select v44 c1_i32_35 c32_i32_33
  let v46 : BitVec 32 := Scalar.remsi arg10 v45
  let c0_i32_37 : BitVec 32 := 0#32
  let v48 : BitVec 1 := Scalar.cmpi .slt v46 c0_i32_37
  let c0_i32_38 : BitVec 32 := 0#32
  let v49 : BitVec 1 := Scalar.cmpi .slt v45 c0_i32_38
  let v50 : BitVec 1 := Scalar.xori v48 v49
  let c0_i32_36 : BitVec 32 := 0#32
  let v47 : BitVec 1 := Scalar.cmpi .ne v46 c0_i32_36
  let v51 : BitVec 1 := Scalar.andi v50 v47
  let v52 : BitVec 32 := Scalar.addi v46 v45
  let v53 : BitVec 32 := Scalar.select v51 v52 v46
  let c16_i32_39 : BitVec 32 := 16#32
  let v54 : BitVec 32 := Scalar.muli v53 c16_i32_39
  let v137 : Index := Scalar.indexCast v54
  ![v136.toNat, v137.toNat]

def k0_chk7 (v10 : IVec S16 32) (v138 : IVec S16 32) : Prop :=
  (∀ a x, ((![v10, v138] : Fin 2 → IVec S16 32) a x).toNat < S8x2048.size a) ∧
  (∀ a x, ((![v10, v138] : Fin 2 → IVec S16 32) a x).toNat < S8x2048.size a)
theorem k0_idx13_inb : ∀ (v10 : IVec S16 32) (v138 : IVec S16 32) (k0_hw7 : k0_chk7 v10 v138), ∀ a x, ((![v10, v138] : Fin 2 → IVec S16 32) a x).toNat < S8x2048.size a := fun v10 v138 k0_hw7 => k0_hw7.1
theorem k0_idx14_inb : ∀ (v10 : IVec S16 32) (v138 : IVec S16 32) (k0_hw7 : k0_chk7 v10 v138), ∀ a x, ((![v10, v138] : Fin 2 → IVec S16 32) a x).toNat < S8x2048.size a := fun v10 v138 k0_hw7 => k0_hw7.2
def k0_off14 (k0_t4 : Fin k0_t4_loop.trips) : Fin 2 → Nat :=
  let c22_i32 : BitVec 32 := 22#32
  let c0_i32_23 : BitVec 32 := 0#32
  let c1_i32_25 : BitVec 32 := 1#32
  let arg10 : BitVec 32 := Scf.iv c0_i32_23 c1_i32_25 k0_t4
  let c0_i32_27 : BitVec 32 := 0#32
  let v28 : BitVec 1 := Scalar.cmpi .sgt arg10 c0_i32_27
  let v29 : BitVec 32 := Scalar.extui v28
  let c0_i32_28 : BitVec 32 := 0#32
  let v30 : BitVec 1 := Scalar.cmpi .slt arg10 c0_i32_28
  let v31 : BitVec 32 := Scalar.extui v30
  let v32 : BitVec 32 := Scalar.subi v29 v31
  let c32_i32 : BitVec 32 := 32#32
  let c0_i32_29 : BitVec 32 := 0#32
  let v33 : BitVec 1 := Scalar.cmpi .sgt c32_i32 c0_i32_29
  let v34 : BitVec 32 := Scalar.extui v33
  let c0_i32_30 : BitVec 32 := 0#32
  let v35 : BitVec 1 := Scalar.cmpi .slt c32_i32 c0_i32_30
  let v36 : BitVec 32 := Scalar.extui v35
  let v37 : BitVec 32 := Scalar.subi v34 v36
  let v38 : BitVec 1 := Scalar.cmpi .ne v32 v37
  let v39 : BitVec 32 := Scalar.remsi arg10 c32_i32
  let c0_i32_31 : BitVec 32 := 0#32
  let v40 : BitVec 1 := Scalar.cmpi .ne v39 c0_i32_31
  let v41 : BitVec 1 := Scalar.andi v38 v40
  let v27 : BitVec 32 := Scalar.divsi arg10 c32_i32
  let c1_i32_32 : BitVec 32 := 1#32
  let v42 : BitVec 32 := Scalar.subi v27 c1_i32_32
  let v43 : BitVec 32 := Scalar.select v41 v42 v27
  let v147 : BitVec 32 := Scalar.subi c22_i32 v43
  let v148 : Index := Scalar.indexCast v147
  let c32_i32_33 : BitVec 32 := 32#32
  let c0_i32_34 : BitVec 32 := 0#32
  let v44 : BitVec 1 := Scalar.cmpi .eq c32_i32_33 c0_i32_34
  let c1_i32_35 : BitVec 32 := 1#32
  let v45 : BitVec 32 := Scalar.select v44 c1_i32_35 c32_i32_33
  let v46 : BitVec 32 := Scalar.remsi arg10 v45
  let c0_i32_37 : BitVec 32 := 0#32
  let v48 : BitVec 1 := Scalar.cmpi .slt v46 c0_i32_37
  let c0_i32_38 : BitVec 32 := 0#32
  let v49 : BitVec 1 := Scalar.cmpi .slt v45 c0_i32_38
  let v50 : BitVec 1 := Scalar.xori v48 v49
  let c0_i32_36 : BitVec 32 := 0#32
  let v47 : BitVec 1 := Scalar.cmpi .ne v46 c0_i32_36
  let v51 : BitVec 1 := Scalar.andi v50 v47
  let v52 : BitVec 32 := Scalar.addi v46 v45
  let v53 : BitVec 32 := Scalar.select v51 v52 v46
  let c16_i32_39 : BitVec 32 := 16#32
  let v54 : BitVec 32 := Scalar.muli v53 c16_i32_39
  let v149 : Index := Scalar.indexCast v54
  ![v148.toNat, v149.toNat]

def k0_chk8 (v11 : IVec S16 32) (v150 : IVec S16 32) : Prop :=
  (∀ a x, ((![v11, v150] : Fin 2 → IVec S16 32) a x).toNat < S8x2048.size a) ∧
  (∀ a x, ((![v11, v150] : Fin 2 → IVec S16 32) a x).toNat < S8x2048.size a)
theorem k0_idx15_inb : ∀ (v11 : IVec S16 32) (v150 : IVec S16 32) (k0_hw8 : k0_chk8 v11 v150), ∀ a x, ((![v11, v150] : Fin 2 → IVec S16 32) a x).toNat < S8x2048.size a := fun v11 v150 k0_hw8 => k0_hw8.1
theorem k0_idx16_inb : ∀ (v11 : IVec S16 32) (v150 : IVec S16 32) (k0_hw8 : k0_chk8 v11 v150), ∀ a x, ((![v11, v150] : Fin 2 → IVec S16 32) a x).toNat < S8x2048.size a := fun v11 v150 k0_hw8 => k0_hw8.2
def k0_off15 (k0_t4 : Fin k0_t4_loop.trips) : Fin 3 → Nat :=
  let c0_i32_91 : BitVec 32 := 0#32
  let v159 : Index := Scalar.indexCast c0_i32_91
  let c0_i32_23 : BitVec 32 := 0#32
  let c1_i32_25 : BitVec 32 := 1#32
  let arg10 : BitVec 32 := Scf.iv c0_i32_23 c1_i32_25 k0_t4
  let c0_i32_27 : BitVec 32 := 0#32
  let v28 : BitVec 1 := Scalar.cmpi .sgt arg10 c0_i32_27
  let v29 : BitVec 32 := Scalar.extui v28
  let c0_i32_28 : BitVec 32 := 0#32
  let v30 : BitVec 1 := Scalar.cmpi .slt arg10 c0_i32_28
  let v31 : BitVec 32 := Scalar.extui v30
  let v32 : BitVec 32 := Scalar.subi v29 v31
  let c32_i32 : BitVec 32 := 32#32
  let c0_i32_29 : BitVec 32 := 0#32
  let v33 : BitVec 1 := Scalar.cmpi .sgt c32_i32 c0_i32_29
  let v34 : BitVec 32 := Scalar.extui v33
  let c0_i32_30 : BitVec 32 := 0#32
  let v35 : BitVec 1 := Scalar.cmpi .slt c32_i32 c0_i32_30
  let v36 : BitVec 32 := Scalar.extui v35
  let v37 : BitVec 32 := Scalar.subi v34 v36
  let v38 : BitVec 1 := Scalar.cmpi .ne v32 v37
  let v39 : BitVec 32 := Scalar.remsi arg10 c32_i32
  let c0_i32_31 : BitVec 32 := 0#32
  let v40 : BitVec 1 := Scalar.cmpi .ne v39 c0_i32_31
  let v41 : BitVec 1 := Scalar.andi v38 v40
  let v27 : BitVec 32 := Scalar.divsi arg10 c32_i32
  let c1_i32_32 : BitVec 32 := 1#32
  let v42 : BitVec 32 := Scalar.subi v27 c1_i32_32
  let v43 : BitVec 32 := Scalar.select v41 v42 v27
  let v160 : Index := Scalar.indexCast v43
  let c32_i32_33 : BitVec 32 := 32#32
  let c0_i32_34 : BitVec 32 := 0#32
  let v44 : BitVec 1 := Scalar.cmpi .eq c32_i32_33 c0_i32_34
  let c1_i32_35 : BitVec 32 := 1#32
  let v45 : BitVec 32 := Scalar.select v44 c1_i32_35 c32_i32_33
  let v46 : BitVec 32 := Scalar.remsi arg10 v45
  let c0_i32_37 : BitVec 32 := 0#32
  let v48 : BitVec 1 := Scalar.cmpi .slt v46 c0_i32_37
  let c0_i32_38 : BitVec 32 := 0#32
  let v49 : BitVec 1 := Scalar.cmpi .slt v45 c0_i32_38
  let v50 : BitVec 1 := Scalar.xori v48 v49
  let c0_i32_36 : BitVec 32 := 0#32
  let v47 : BitVec 1 := Scalar.cmpi .ne v46 c0_i32_36
  let v51 : BitVec 1 := Scalar.andi v50 v47
  let v52 : BitVec 32 := Scalar.addi v46 v45
  let v53 : BitVec 32 := Scalar.select v51 v52 v46
  let c16_i32_39 : BitVec 32 := 16#32
  let v54 : BitVec 32 := Scalar.muli v53 c16_i32_39
  let v161 : Index := Scalar.indexCast v54
  ![0, v160.toNat, v161.toNat]
def k0_off16 (k0_t4 : Fin k0_t4_loop.trips) : Fin 3 → Nat :=
  let c1_i32_92 : BitVec 32 := 1#32
  let v163 : Index := Scalar.indexCast c1_i32_92
  let c0_i32_23 : BitVec 32 := 0#32
  let c1_i32_25 : BitVec 32 := 1#32
  let arg10 : BitVec 32 := Scf.iv c0_i32_23 c1_i32_25 k0_t4
  let c0_i32_27 : BitVec 32 := 0#32
  let v28 : BitVec 1 := Scalar.cmpi .sgt arg10 c0_i32_27
  let v29 : BitVec 32 := Scalar.extui v28
  let c0_i32_28 : BitVec 32 := 0#32
  let v30 : BitVec 1 := Scalar.cmpi .slt arg10 c0_i32_28
  let v31 : BitVec 32 := Scalar.extui v30
  let v32 : BitVec 32 := Scalar.subi v29 v31
  let c32_i32 : BitVec 32 := 32#32
  let c0_i32_29 : BitVec 32 := 0#32
  let v33 : BitVec 1 := Scalar.cmpi .sgt c32_i32 c0_i32_29
  let v34 : BitVec 32 := Scalar.extui v33
  let c0_i32_30 : BitVec 32 := 0#32
  let v35 : BitVec 1 := Scalar.cmpi .slt c32_i32 c0_i32_30
  let v36 : BitVec 32 := Scalar.extui v35
  let v37 : BitVec 32 := Scalar.subi v34 v36
  let v38 : BitVec 1 := Scalar.cmpi .ne v32 v37
  let v39 : BitVec 32 := Scalar.remsi arg10 c32_i32
  let c0_i32_31 : BitVec 32 := 0#32
  let v40 : BitVec 1 := Scalar.cmpi .ne v39 c0_i32_31
  let v41 : BitVec 1 := Scalar.andi v38 v40
  let v27 : BitVec 32 := Scalar.divsi arg10 c32_i32
  let c1_i32_32 : BitVec 32 := 1#32
  let v42 : BitVec 32 := Scalar.subi v27 c1_i32_32
  let v43 : BitVec 32 := Scalar.select v41 v42 v27
  let v164 : Index := Scalar.indexCast v43
  let c32_i32_33 : BitVec 32 := 32#32
  let c0_i32_34 : BitVec 32 := 0#32
  let v44 : BitVec 1 := Scalar.cmpi .eq c32_i32_33 c0_i32_34
  let c1_i32_35 : BitVec 32 := 1#32
  let v45 : BitVec 32 := Scalar.select v44 c1_i32_35 c32_i32_33
  let v46 : BitVec 32 := Scalar.remsi arg10 v45
  let c0_i32_37 : BitVec 32 := 0#32
  let v48 : BitVec 1 := Scalar.cmpi .slt v46 c0_i32_37
  let c0_i32_38 : BitVec 32 := 0#32
  let v49 : BitVec 1 := Scalar.cmpi .slt v45 c0_i32_38
  let v50 : BitVec 1 := Scalar.xori v48 v49
  let c0_i32_36 : BitVec 32 := 0#32
  let v47 : BitVec 1 := Scalar.cmpi .ne v46 c0_i32_36
  let v51 : BitVec 1 := Scalar.andi v50 v47
  let v52 : BitVec 32 := Scalar.addi v46 v45
  let v53 : BitVec 32 := Scalar.select v51 v52 v46
  let c16_i32_39 : BitVec 32 := 16#32
  let v54 : BitVec 32 := Scalar.muli v53 c16_i32_39
  let v165 : Index := Scalar.indexCast v54
  ![1, v164.toNat, v165.toNat]
def k0_off17 (i : grid0.Coords) (k0_t1 : Fin k0_t1_loop.trips) (c0_i32_12 : BitVec 32) : Fin 3 → Nat :=
  let c0_i32_1 : BitVec 32 := 0#32
  let c1_i32_3 : BitVec 32 := 1#32
  let arg8 : BitVec 32 := Scf.iv c0_i32_1 c1_i32_3 k0_t1
  let c2_i32_11 : BitVec 32 := 2#32
  let v15 : BitVec 32 := Scalar.muli arg8 c2_i32_11
  let v16 : BitVec 32 := Scalar.addi v15 c0_i32_12
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_19_r3 : BitVec 32 := 0#32
  ![v16.toNat, v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x2x512x2048 : Shape := ⟨4, ![4, 2, 512, 2048]⟩
abbrev S512x2 : Shape := ⟨2, ![512, 2]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x4x2x2048 : Shape := ⟨4, ![512, 4, 2, 2048]⟩
abbrev S4x2x512x512 : Shape := ⟨4, ![4, 2, 512, 512]⟩
abbrev S1x2 : Shape := ⟨2, ![1, 2]⟩
abbrev S2 : Shape := ⟨1, ![2]⟩
abbrev S1x4x2x2048 : Shape := ⟨4, ![1, 4, 2, 2048]⟩
abbrev S4x2x2048 : Shape := ⟨3, ![4, 2, 2048]⟩
abbrev S1 : Shape := ⟨1, ![1]⟩
abbrev S512x512 : Shape := ⟨2, ![512, 512]⟩
abbrev S262144 : Shape := ⟨1, ![262144]⟩
abbrev S262144x1 : Shape := ⟨2, ![262144, 1]⟩
abbrev S1x1 : Shape := ⟨2, ![1, 1]⟩
abbrev S4x2x262144 : Shape := ⟨3, ![4, 2, 262144]⟩

abbrev nBuf : Space → Nat
  | .hbm => 95
  | .vmem => 0
  | .smem => 0
  | _ => 0

abbrev bufTy : (tb : Table) → Fin (tcTables nBuf tb) → BufTy
  | .hbm, ⟨0, _⟩ => ⟨S4x2x512x2048, .f32⟩
  | .hbm, ⟨1, _⟩ => ⟨S512x2, .i32⟩
  | .hbm, ⟨2, _⟩ => ⟨S512, .f32⟩
  | .hbm, ⟨3, _⟩ => ⟨S_, .f32⟩
  | .hbm, ⟨4, _⟩ => ⟨S512, .f32⟩
  | .hbm, ⟨5, _⟩ => ⟨S512, .f32⟩
  | .hbm, ⟨6, _⟩ => ⟨S512x1, .f32⟩
  | .hbm, ⟨7, _⟩ => ⟨S512, .f32⟩
  | .hbm, ⟨8, _⟩ => ⟨S_, .f32⟩
  | .hbm, ⟨9, _⟩ => ⟨S512, .f32⟩
  | .hbm, ⟨10, _⟩ => ⟨S512, .f32⟩
  | .hbm, ⟨11, _⟩ => ⟨S1x512, .f32⟩
  | .hbm, ⟨12, _⟩ => ⟨S512x4x2x2048, .f32⟩
  | .hbm, ⟨13, _⟩ => ⟨S_, .f32⟩
  | .hbm, ⟨14, _⟩ => ⟨S4x2x512x512, .f32⟩
  | .hbm, ⟨15, _⟩ => ⟨S_, .i32⟩
  | .hbm, ⟨16, _⟩ => ⟨S512x2, .i32⟩
  | .hbm, ⟨17, _⟩ => ⟨S512x4x2x2048, .f32⟩
  | .hbm, ⟨18, _⟩ => ⟨S512x1, .f32⟩
  | .hbm, ⟨19, _⟩ => ⟨S1x512, .f32⟩
  | .hbm, ⟨20, _⟩ => ⟨S_, .i32⟩
  | .hbm, ⟨21, _⟩ => ⟨S4x2x512x512, .f32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S1x2, .i32⟩
  | .hbm, ⟨26, _⟩ => ⟨S2, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S1x4x2x2048, .f32⟩
  | .hbm, ⟨31, _⟩ => ⟨S4x2x2048, .f32⟩
  | .hbm, ⟨32, _⟩ => ⟨S1, .i32⟩
  | .hbm, ⟨33, _⟩ => ⟨S_, .i32⟩
  | .hbm, ⟨34, _⟩ => ⟨S_, .f32⟩
  | .hbm, ⟨35, _⟩ => ⟨S1, .i32⟩
  | .hbm, ⟨36, _⟩ => ⟨S_, .i32⟩
  | .hbm, ⟨37, _⟩ => ⟨S_, .f32⟩
  | .hbm, ⟨38, _⟩ => ⟨S512x1, .f32⟩
  | .hbm, ⟨39, _⟩ => ⟨S512x1, .f32⟩
  | .hbm, ⟨40, _⟩ => ⟨S_, .f32⟩
  | .hbm, ⟨41, _⟩ => ⟨S512x1, .f32⟩
  | .hbm, ⟨42, _⟩ => ⟨S512x1, .f32⟩
  | .hbm, ⟨43, _⟩ => ⟨S_, .f32⟩
  | .hbm, ⟨44, _⟩ => ⟨S512x1, .f32⟩
  | .hbm, ⟨45, _⟩ => ⟨S512x1, .f32⟩
  | .hbm, ⟨46, _⟩ => ⟨S512x1, .f32⟩
  | .hbm, ⟨47, _⟩ => ⟨S1x512, .f32⟩
  | .hbm, ⟨48, _⟩ => ⟨S1x512, .f32⟩
  | .hbm, ⟨49, _⟩ => ⟨S_, .f32⟩
  | .hbm, ⟨50, _⟩ => ⟨S1x512, .f32⟩
  | .hbm, ⟨51, _⟩ => ⟨S1x512, .f32⟩
  | .hbm, ⟨52, _⟩ => ⟨S_, .f32⟩
  | .hbm, ⟨53, _⟩ => ⟨S1x512, .f32⟩
  | .hbm, ⟨54, _⟩ => ⟨S1x512, .f32⟩
  | .hbm, ⟨55, _⟩ => ⟨S1x512, .f32⟩
  | .hbm, ⟨56, _⟩ => ⟨S512x512, .f32⟩
  | .hbm, ⟨57, _⟩ => ⟨S512x512, .f32⟩
  | .hbm, ⟨58, _⟩ => ⟨S512x512, .f32⟩
  | .hbm, ⟨59, _⟩ => ⟨S512x512, .f32⟩
  | .hbm, ⟨60, _⟩ => ⟨S_, .f32⟩
  | .hbm, ⟨61, _⟩ => ⟨S512x512, .f32⟩
  | .hbm, ⟨62, _⟩ => ⟨S512x512, .f32⟩
  | .hbm, ⟨63, _⟩ => ⟨S_, .f32⟩
  | .hbm, ⟨64, _⟩ => ⟨S512x512, .f32⟩
  | .hbm, ⟨65, _⟩ => ⟨S512x512, .f32⟩
  | .hbm, ⟨66, _⟩ => ⟨S512x512, .i32⟩
  | .hbm, ⟨67, _⟩ => ⟨S262144, .i32⟩
  | .hbm, ⟨68, _⟩ => ⟨S_, .i32⟩
  | .hbm, ⟨69, _⟩ => ⟨S262144, .i32⟩
  | .hbm, ⟨70, _⟩ => ⟨S262144, .i1⟩
  | .hbm, ⟨71, _⟩ => ⟨S_, .i32⟩
  | .hbm, ⟨72, _⟩ => ⟨S262144, .i32⟩
  | .hbm, ⟨73, _⟩ => ⟨S262144, .i32⟩
  | .hbm, ⟨74, _⟩ => ⟨S262144, .i32⟩
  | .hbm, ⟨75, _⟩ => ⟨S262144x1, .i32⟩
  | .hbm, ⟨76, _⟩ => ⟨S1, .i32⟩
  | .hbm, ⟨77, _⟩ => ⟨S_, .i32⟩
  | .hbm, ⟨78, _⟩ => ⟨S262144x1, .i32⟩
  | .hbm, ⟨79, _⟩ => ⟨S262144x1, .i1⟩
  | .hbm, ⟨80, _⟩ => ⟨S1x1, .i32⟩
  | .hbm, ⟨81, _⟩ => ⟨S262144x1, .i32⟩
  | .hbm, ⟨82, _⟩ => ⟨S262144x1, .i1⟩
  | .hbm, ⟨83, _⟩ => ⟨S262144x1, .i1⟩
  | .hbm, ⟨84, _⟩ => ⟨S_, .i1⟩
  | .hbm, ⟨85, _⟩ => ⟨S262144, .i1⟩
  | .hbm, ⟨86, _⟩ => ⟨S4x2x262144, .f32⟩
  | .hbm, ⟨87, _⟩ => ⟨S4x2x262144, .i1⟩
  | .hbm, ⟨88, _⟩ => ⟨S_, .f32⟩
  | .hbm, ⟨89, _⟩ => ⟨S4x2x262144, .f32⟩
  | .hbm, ⟨90, _⟩ => ⟨S4x2x262144, .f32⟩
  | .hbm, ⟨91, _⟩ => ⟨S4x2x512x512, .f32⟩
  | .hbm, ⟨92, _⟩ => ⟨S4x2x512x512, .f32⟩
  | .hbm, ⟨93, _⟩ => ⟨S_, .i32⟩
  | .hbm, ⟨94, _⟩ => ⟨S_, .i32⟩
  | _, _ => ⟨S4x2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_c : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev main_v10_4 : Ref sig .tc := ⟨.hbm, 20, rfl⟩
abbrev main_v10_5 : Ref sig .tc := ⟨.hbm, 21, rfl⟩
abbrev main_while0c_c_7 : Ref sig .tc := ⟨.hbm, 22, rfl⟩
abbrev main_while0c_v11 : Ref sig .tc := ⟨.hbm, 23, rfl⟩
abbrev main_while0b_call0_c : Ref sig .tc := ⟨.hbm, 24, rfl⟩
abbrev main_while0b_call0_v0 : Ref sig .tc := ⟨.hbm, 25, rfl⟩
abbrev main_while0b_v11 : Ref sig .tc := ⟨.hbm, 26, rfl⟩
abbrev main_while0b_call1_c : Ref sig .tc := ⟨.hbm, 27, rfl⟩
abbrev main_while0b_call1_c_0 : Ref sig .tc := ⟨.hbm, 28, rfl⟩
abbrev main_while0b_call1_c_1 : Ref sig .tc := ⟨.hbm, 29, rfl⟩
abbrev main_while0b_call1_v0 : Ref sig .tc := ⟨.hbm, 30, rfl⟩
abbrev main_while0b_v12 : Ref sig .tc := ⟨.hbm, 31, rfl⟩
abbrev main_while0b_v13 : Ref sig .tc := ⟨.hbm, 32, rfl⟩
abbrev main_while0b_v14 : Ref sig .tc := ⟨.hbm, 33, rfl⟩
abbrev main_while0b_v15 : Ref sig .tc := ⟨.hbm, 34, rfl⟩
abbrev main_while0b_v16 : Ref sig .tc := ⟨.hbm, 35, rfl⟩
abbrev main_while0b_v17 : Ref sig .tc := ⟨.hbm, 36, rfl⟩
abbrev main_while0b_v18 : Ref sig .tc := ⟨.hbm, 37, rfl⟩
abbrev main_while0b_v19 : Ref sig .tc := ⟨.hbm, 38, rfl⟩
abbrev main_while0b_v20 : Ref sig .tc := ⟨.hbm, 39, rfl⟩
abbrev main_while0b_cst_7 : Ref sig .tc := ⟨.hbm, 40, rfl⟩
abbrev main_while0b_v21 : Ref sig .tc := ⟨.hbm, 41, rfl⟩
abbrev main_while0b_v22 : Ref sig .tc := ⟨.hbm, 42, rfl⟩
abbrev main_while0b_cst_8 : Ref sig .tc := ⟨.hbm, 43, rfl⟩
abbrev main_while0b_v23 : Ref sig .tc := ⟨.hbm, 44, rfl⟩
abbrev main_while0b_v24 : Ref sig .tc := ⟨.hbm, 45, rfl⟩
abbrev main_while0b_v25 : Ref sig .tc := ⟨.hbm, 46, rfl⟩
abbrev main_while0b_v26 : Ref sig .tc := ⟨.hbm, 47, rfl⟩
abbrev main_while0b_v27 : Ref sig .tc := ⟨.hbm, 48, rfl⟩
abbrev main_while0b_cst_9 : Ref sig .tc := ⟨.hbm, 49, rfl⟩
abbrev main_while0b_v28 : Ref sig .tc := ⟨.hbm, 50, rfl⟩
abbrev main_while0b_v29 : Ref sig .tc := ⟨.hbm, 51, rfl⟩
abbrev main_while0b_cst_10 : Ref sig .tc := ⟨.hbm, 52, rfl⟩
abbrev main_while0b_v30 : Ref sig .tc := ⟨.hbm, 53, rfl⟩
abbrev main_while0b_v31 : Ref sig .tc := ⟨.hbm, 54, rfl⟩
abbrev main_while0b_v32 : Ref sig .tc := ⟨.hbm, 55, rfl⟩
abbrev main_while0b_v33 : Ref sig .tc := ⟨.hbm, 56, rfl⟩
abbrev main_while0b_v34 : Ref sig .tc := ⟨.hbm, 57, rfl⟩
abbrev main_while0b_v35 : Ref sig .tc := ⟨.hbm, 58, rfl⟩
abbrev main_while0b_v36 : Ref sig .tc := ⟨.hbm, 59, rfl⟩
abbrev main_while0b_cst_11 : Ref sig .tc := ⟨.hbm, 60, rfl⟩
abbrev main_while0b_v37 : Ref sig .tc := ⟨.hbm, 61, rfl⟩
abbrev main_while0b_v38 : Ref sig .tc := ⟨.hbm, 62, rfl⟩
abbrev main_while0b_cst_12 : Ref sig .tc := ⟨.hbm, 63, rfl⟩
abbrev main_while0b_v39 : Ref sig .tc := ⟨.hbm, 64, rfl⟩
abbrev main_while0b_v40 : Ref sig .tc := ⟨.hbm, 65, rfl⟩
abbrev main_while0b_v41 : Ref sig .tc := ⟨.hbm, 66, rfl⟩
abbrev main_while0b_v42 : Ref sig .tc := ⟨.hbm, 67, rfl⟩
abbrev main_while0b_call2_c : Ref sig .tc := ⟨.hbm, 68, rfl⟩
abbrev main_while0b_call2_v0 : Ref sig .tc := ⟨.hbm, 69, rfl⟩
abbrev main_while0b_call2_v1 : Ref sig .tc := ⟨.hbm, 70, rfl⟩
abbrev main_while0b_call2_c_0 : Ref sig .tc := ⟨.hbm, 71, rfl⟩
abbrev main_while0b_call2_v2 : Ref sig .tc := ⟨.hbm, 72, rfl⟩
abbrev main_while0b_call2_v3 : Ref sig .tc := ⟨.hbm, 73, rfl⟩
abbrev main_while0b_call2_v4 : Ref sig .tc := ⟨.hbm, 74, rfl⟩
abbrev main_while0b_call2_v5 : Ref sig .tc := ⟨.hbm, 75, rfl⟩
abbrev main_while0b_call2_c_1 : Ref sig .tc := ⟨.hbm, 76, rfl⟩
abbrev main_while0b_call2_c_2 : Ref sig .tc := ⟨.hbm, 77, rfl⟩
abbrev main_while0b_call2_v6 : Ref sig .tc := ⟨.hbm, 78, rfl⟩
abbrev main_while0b_call2_v7 : Ref sig .tc := ⟨.hbm, 79, rfl⟩
abbrev main_while0b_call2_v8 : Ref sig .tc := ⟨.hbm, 80, rfl⟩
abbrev main_while0b_call2_v9 : Ref sig .tc := ⟨.hbm, 81, rfl⟩
abbrev main_while0b_call2_v10 : Ref sig .tc := ⟨.hbm, 82, rfl⟩
abbrev main_while0b_call2_v11 : Ref sig .tc := ⟨.hbm, 83, rfl⟩
abbrev main_while0b_call2_c_3 : Ref sig .tc := ⟨.hbm, 84, rfl⟩
abbrev main_while0b_call2_v12 : Ref sig .tc := ⟨.hbm, 85, rfl⟩
abbrev main_while0b_call2_v13 : Ref sig .tc := ⟨.hbm, 86, rfl⟩
abbrev main_while0b_call2_v14 : Ref sig .tc := ⟨.hbm, 87, rfl⟩
abbrev main_while0b_call2_cst : Ref sig .tc := ⟨.hbm, 88, rfl⟩
abbrev main_while0b_call2_v15 : Ref sig .tc := ⟨.hbm, 89, rfl⟩
abbrev main_while0b_v43 : Ref sig .tc := ⟨.hbm, 90, rfl⟩
abbrev main_while0b_v44 : Ref sig .tc := ⟨.hbm, 91, rfl⟩
abbrev main_while0b_v45 : Ref sig .tc := ⟨.hbm, 92, rfl⟩
abbrev main_while0b_c_13 : Ref sig .tc := ⟨.hbm, 93, rfl⟩
abbrev main_while0b_v46 : Ref sig .tc := ⟨.hbm, 94, rfl⟩

abbrev nD : Nat := 1
abbrev τ : Topo := Topo.v7x

variable {F : FTy → Type} [FloatOps F]

abbrev main_while0_count : Scf.Loop 32 := ⟨0#32, 512#32, 1#32⟩
-- ==== Proof.Sums.lean ====
/-
  The value the kernel computes, as pure functions: a sum taken sensor by sensor, in order, from an initial value
  (`chain`), one output element as such a sum of 512 delayed samples (`das`), and what eight more sensors add to an
  accumulator element (`fresh`). Indices are written by their coordinates as natural numbers (`at2`, `at3`).
-/
module

public import Idealize.ShloMosaic.Lib.ValueIdxCore

@[expose] public section

namespace Cert.Proof.Sums

open Idealize.ShloMosaic Idealize.ShloMosaic.ValueIdx

/-- The rank-2 index at the given coordinates, each taken modulo its axis. -/
def at2 {a b : ℕ} [NeZero a] [NeZero b] (i j : ℕ) : (⟨2, ![a, b]⟩ : Shape).Idx := ix2 (Fin.ofNat a i) (Fin.ofNat b j)
/-- The rank-3 index at the given coordinates, each taken modulo its axis. -/
def at3 {a b c : ℕ} [NeZero a] [NeZero b] [NeZero c] (i j k : ℕ) : (⟨3, ![a, b, c]⟩ : Shape).Idx :=
  ix3 (Fin.ofNat a i) (Fin.ofNat b j) (Fin.ofNat c k)

theorem at2_0 {a b : ℕ} [NeZero a] [NeZero b] {i j : ℕ} (h : i < a) : ((at2 i j : (⟨2, ![a, b]⟩ : Shape).Idx) 0).val = i :=
  Nat.mod_eq_of_lt h
theorem at2_1 {a b : ℕ} [NeZero a] [NeZero b] {i j : ℕ} (h : j < b) : ((at2 i j : (⟨2, ![a, b]⟩ : Shape).Idx) 1).val = j :=
  Nat.mod_eq_of_lt h
theorem at3_0 {a b c : ℕ} [NeZero a] [NeZero b] [NeZero c] {i j k : ℕ} (h : i < a) :
    ((at3 i j k : (⟨3, ![a, b, c]⟩ : Shape).Idx) 0).val = i := Nat.mod_eq_of_lt h
theorem at3_1 {a b c : ℕ} [NeZero a] [NeZero b] [NeZero c] {i j k : ℕ} (h : j < b) :
    ((at3 i j k : (⟨3, ![a, b, c]⟩ : Shape).Idx) 1).val = j := Nat.mod_eq_of_lt h
theorem at3_2 {a b c : ℕ} [NeZero a] [NeZero b] [NeZero c] {i j k : ℕ} (h : k < c) :
    ((at3 i j k : (⟨3, ![a, b, c]⟩ : Shape).Idx) 2).val = k := Nat.mod_eq_of_lt h

/-- A rank-2 index is `at2` of any numbers that are its coordinates. -/
theorem eq_at2 {a b : ℕ} [NeZero a] [NeZero b] (y : (⟨2, ![a, b]⟩ : Shape).Idx) {i j : ℕ}
    (h0 : (y 0).val = i) (h1 : (y 1).val = j) : y = at2 i j := by
  subst h0 h1
  rw [eq_ix2 y]
  unfold at2
  congr 1 <;> exact Fin.ext (Nat.mod_eq_of_lt (Fin.isLt _)).symm
/-- A rank-3 index is `at3` of any numbers that are its coordinates. -/
theorem eq_at3 {a b c : ℕ} [NeZero a] [NeZero b] [NeZero c] (y : (⟨3, ![a, b, c]⟩ : Shape).Idx) {i j k : ℕ}
    (h0 : (y 0).val = i) (h1 : (y 1).val = j) (h2 : (y 2).val = k) : y = at3 i j k := by
  subst h0 h1 h2
  rw [eq_ix3 y]
  unfold at3
  congr 1 <;> exact Fin.ext (Nat.mod_eq_of_lt (Fin.isLt _)).symm
/-- Only the last coordinate's remainder counts. -/
theorem at3_mod {a b c : ℕ} [NeZero a] [NeZero b] [NeZero c] (i j k : ℕ) :
    (at3 i j (k % c) : (⟨3, ![a, b, c]⟩ : Shape).Idx) = at3 i j k := by
  unfold at3
  congr 1
  exact Fin.ext (Nat.mod_mod _ _)

variable {F : FTy → Type} [FloatOps F]

/-- The sum of `g 0, …, g (n - 1)`, taken in that order from `z`. -/
def chain (z : F .f32) (g : ℕ → F .f32) : ℕ → F .f32
  | 0 => z
  | n + 1 => FloatOps.addf (chain z g n) (g n)

theorem chain_congr (z : F .f32) {g g' : ℕ → F .f32} (n : ℕ) (h : ∀ c < n, g c = g' c) : chain z g n = chain z g' n := by
  induction n with
  | zero => rfl
  | succ n ih => rw [chain, chain, ih fun c hc => h c (by omega), h n (by omega)]

/-- A chain of `m + n` terms is the chain of the last `n` from the chain of the first `m`. -/
theorem chain_add (z : F .f32) (g : ℕ → F .f32) (m n : ℕ) : chain z g (m + n) = chain (chain z g m) (fun c => g (m + c)) n := by
  induction n with
  | zero => rfl
  | succ n ih => rw [← Nat.add_assoc, chain, chain, ih]

/-- The first `n` sensors' samples of plane `p` at the delays `tab (c + 511 - i, j)`, summed in order from `z`. -/
def part (z : F .f32) (sd : (⟨3, ![8, 512, 2048]⟩ : Shape).Idx → F .f32) (tab : (⟨2, ![1024, 512]⟩ : Shape).Idx → BitVec 32)
    (p i j n : ℕ) : F .f32 :=
  chain z (fun c => sd (at3 p c (tab (at2 (c + 511 - i) j)).toNat)) n

/-- The kernel's result: at `(p, i, j)` all 512 sensors' samples. -/
def das (z : F .f32) (sd : (⟨3, ![8, 512, 2048]⟩ : Shape).Idx → F .f32) (tab : (⟨2, ![1024, 512]⟩ : Shape).Idx → BitVec 32) :
    (⟨3, ![8, 512, 512]⟩ : Shape).Idx → F .f32 :=
  fun x => part z sd tab (x 0) (x 1) (x 2) 512

/-- An accumulator element `a` at `(u, i, j)` after the eight sensors whose samples are `f5` and whose delays are `f6`. -/
def fresh (f5 : (⟨3, ![2, 8, 2048]⟩ : Shape).Idx → F .f32) (f6 : (⟨2, ![24, 512]⟩ : Shape).Idx → BitVec 32) (a : F .f32)
    (u i j : ℕ) : F .f32 :=
  chain a (fun c => f5 (at3 u c (f6 (at2 (c + 15 - i) j)).toNat)) 8

/-- The accumulator after `k` of the 512 groups of sixteen pixels: those groups fresh, the others as before. -/
def pix (f5 : (⟨3, ![2, 8, 2048]⟩ : Shape).Idx → F .f32) (f6 : (⟨2, ![24, 512]⟩ : Shape).Idx → BitVec 32)
    (fa : (⟨3, ![2, 16, 512]⟩ : Shape).Idx → F .f32) (k : ℕ) : (⟨3, ![2, 16, 512]⟩ : Shape).Idx → F .f32 :=
  fun y => if (y 1).val * 32 + (y 2).val / 16 < k then fresh f5 f6 (fa y) (y 0) (y 1) (y 2) else fa y

/-- The accumulator of planes `2p, 2p + 1` and rows `i0, …, i0 + 15` after `n` sensors. -/
def acc (z : F .f32) (sd : (⟨3, ![8, 512, 2048]⟩ : Shape).Idx → F .f32) (tab : (⟨2, ![1024, 512]⟩ : Shape).Idx → BitVec 32)
    (p i0 n : ℕ) : (⟨3, ![2, 16, 512]⟩ : Shape).Idx → F .f32 :=
  fun y => part z sd tab (2 * p + (y 0).val) (i0 + (y 1).val) (y 2) n

/-- The samples of planes `2p, 2p + 1` and sensors `c0, …, c0 + 7`. -/
def blk (sd : (⟨3, ![8, 512, 2048]⟩ : Shape).Idx → F .f32) (p c0 : ℕ) : (⟨3, ![2, 8, 2048]⟩ : Shape).Idx → F .f32 :=
  fun y => sd (at3 (2 * p + (y 0).val) (c0 + (y 1).val) (y 2))

/-- The delay rows `r, …, r + 23`. -/
def rows (tab : (⟨2, ![1024, 512]⟩ : Shape).Idx → BitVec 32) (r : ℕ) : (⟨2, ![24, 512]⟩ : Shape).Idx → BitVec 32 :=
  fun y => tab (at2 (r + (y 0).val) (y 1))

theorem pix_zero (f5 : (⟨3, ![2, 8, 2048]⟩ : Shape).Idx → F .f32) (f6 : (⟨2, ![24, 512]⟩ : Shape).Idx → BitVec 32)
    (fa : (⟨3, ![2, 16, 512]⟩ : Shape).Idx → F .f32) : pix f5 f6 fa 0 = fa :=
  funext fun _ => if_neg (Nat.not_lt_zero _)

/-- Eight sensors more: all the groups of pixels fresh turn the sums of `8 n` sensors into those of `8 (n + 1)`. -/
theorem pix_acc (z : F .f32) (sd : (⟨3, ![8, 512, 2048]⟩ : Shape).Idx → F .f32) (tab : (⟨2, ![1024, 512]⟩ : Shape).Idx → BitVec 32)
    {p i0 n : ℕ} (hi0 : i0 ≤ 496) :
    pix (blk sd p (8 * n)) (rows tab (8 * n + 496 - i0)) (acc z sd tab p i0 (8 * n)) 512 = acc z sd tab p i0 (8 * (n + 1)) := by
  funext y
  have h0 : (y 0).val < 2 := (y 0).isLt
  have h1 : (y 1).val < 16 := (y 1).isLt
  have h2 : (y 2).val < 512 := (y 2).isLt
  unfold pix
  rw [if_pos (by omega)]
  unfold acc part fresh
  rw [Nat.mul_add, Nat.mul_one, chain_add]
  refine chain_congr _ _ fun c hc => ?_
  have hr : (rows tab (8 * n + 496 - i0)) (at2 (c + 15 - (y 1).val) (y 2)) = tab (at2 (8 * n + c + 511 - (i0 + (y 1).val)) (y 2)) := by
    unfold rows
    rw [at2_0 (by omega), at2_1 h2]
    congr 2
    omega
  rw [hr]
  unfold blk
  rw [at3_0 h0, at3_1 hc]
  show sd (at3 _ _ (_ % 2048)) = _
  rw [at3_mod]

end Cert.Proof.Sums
-- ==== Proof.Views.lean ====
/-
  Where the elements of a window lie in its buffer: a squeezed plane of a rank-3 buffer, a block of rows of a rank-2 one;
  and what sixteen adjacent elements of a row read as and leave behind when they are stored.
-/
module

public import proofs.«01_k».proof.Proof.Sums
public import Idealize.ShloMosaic.Signature
public import Idealize.ShloMosaic.Lib.Pipeline.Value

@[expose] public section

namespace Cert.Proof.Views

open Idealize.ShloMosaic Idealize.ShloMosaic.ValueIdx Cert.Proof.Sums

section Plane
variable {sig : RefSig} {κ : Kind} {sp : Space} {e : EltTy} {Val : EltTy → Type} {A B C B' C' : ℕ} [NeZero A] [NeZero B] [NeZero C]
  (v : View sig κ sp (⟨3, ![A, B, C]⟩ : Shape) e)

/-- The elements of a plane of `v` at offsets `(a, b, c)`, its leading axis squeezed away. -/
theorem emb_plane {off : Fin 3 → ℕ} {a b c : ℕ} (hoff : off = ![a, b, c])
    (inb : ∀ t, off t + (![1, B', C'] : Fin 3 → ℕ) t ≤ (⟨3, ![A, B, C]⟩ : Shape).size t)
    (h : (⟨2, ![B', C']⟩ : Shape).numel = (⟨3, ![1, B', C']⟩ : Shape).numel) (x : (⟨2, ![B', C']⟩ : Shape).Idx) :
    (((v.slice (Rect.unit off ![1, B', C'] inb)).reshape ⟨2, ![B', C']⟩ h).emb x : v.ty.shape.Idx)
      = v.emb (at3 a (b + (x 0).val) (c + (x 1).val)) := by
  subst hoff
  rw [View.emb_reshape, View.emb_slice]
  show v.emb ((Rect.unit ![a, b, c] ![1, B', C'] inb).emb (Shape.reshapeEquiv h x)) = _
  rw [Shape.reshapeEquiv_cons_one]
  congr 1
  refine eq_at3 _ ?_ ?_ ?_
  · show a + 1 * 0 = a; omega
  · show b + 1 * (x 0).val = _; omega
  · show c + 1 * (x 1).val = _; omega

/-- The elements of that plane, as a set. -/
theorem set_plane {off : Fin 3 → ℕ} (inb : ∀ t, off t + (![1, B', C'] : Fin 3 → ℕ) t ≤ (⟨3, ![A, B, C]⟩ : Shape).size t)
    (h : (⟨2, ![B', C']⟩ : Shape).numel = (⟨3, ![1, B', C']⟩ : Shape).numel) :
    ((v.slice (Rect.unit off ![1, B', C'] inb)).reshape ⟨2, ![B', C']⟩ h).set = (v.slice (Rect.unit off ![1, B', C'] inb)).set :=
  View.set_reshape _ _

/-- Writing a plane of rows `b, …, b + B' - 1`: those rows hold what is written, the rest what they held. -/
theorem write_plane [NeZero B'] {Val : EltTy → Type} {C : ℕ} [NeZero C] (v : View sig κ sp (⟨3, ![A, B, C]⟩ : Shape) e) (f : v.ty.Contents Val)
    {off : Fin 3 → ℕ} {a b : ℕ} (hoff : off = ![a, b, 0])
    (inb : ∀ t, off t + (![1, B', C] : Fin 3 → ℕ) t ≤ (⟨3, ![A, B, C]⟩ : Shape).size t)
    (h : (⟨2, ![B', C]⟩ : Shape).numel = (⟨3, ![1, B', C]⟩ : Shape).numel) (w : (⟨2, ![B', C]⟩ : Shape).Idx → Val e) (y : (⟨3, ![A, B, C]⟩ : Shape).Idx) :
    v.read Val (((v.slice (Rect.unit off ![1, B', C] inb)).reshape ⟨2, ![B', C]⟩ h).write Val f w Finset.univ) y
      = if (y 0).val = a ∧ b ≤ (y 1).val ∧ (y 1).val < b + B' then w (at2 ((y 1).val - b) (y 2)) else v.read Val f y := by
  split
  · next hy =>
    obtain ⟨h0, h1, h2⟩ := hy
    have hx0 : ((at2 ((y 1).val - b) (y 2) : (⟨2, ![B', C]⟩ : Shape).Idx) 0).val = (y 1).val - b := at2_0 (by omega)
    have hx1 : ((at2 ((y 1).val - b) (y 2) : (⟨2, ![B', C]⟩ : Shape).Idx) 1).val = (y 2).val := at2_1 (y 2).isLt
    have he : v.emb y = (((v.slice (Rect.unit off ![1, B', C] inb)).reshape ⟨2, ![B', C]⟩ h).emb (at2 ((y 1).val - b) (y 2)) : v.ty.shape.Idx) := by
      rw [emb_plane v hoff inb h, hx0, hx1]
      exact congrArg v.emb (eq_at3 y h0 (by omega) (by omega))
    rw [View.read_apply, he]
    exact (congrArg _ (View.write_emb_of_mem _ _ (Finset.mem_univ _))).trans (by rw [cast_cast, cast_eq])
  · next hy =>
    have hn : v.emb y ∉ ((v.slice (Rect.unit off ![1, B', C] inb)).reshape ⟨2, ![B', C]⟩ h).setOn Finset.univ := by
      rw [View.setOn_univ, View.set_reshape, View.set_slice]
      intro hm
      have hm' := (Finset.mem_map' v.emb).mp hm
      rw [Rect.mem_set_unit] at hm'
      subst hoff
      have h0 := hm' 0
      have h1 := hm' 1
      refine hy ⟨?_, ?_, ?_⟩
      · have : a ≤ (y 0).val ∧ (y 0).val < a + 1 := h0
        omega
      · exact h1.1
      · exact h1.2
    rw [View.read_apply, View.read_apply]
    exact congrArg _ (View.write_of_not_mem _ _ _ hn)

end Plane

section Sixteen
variable {α : Type}

/-- The one index of the sixteen-element vector at lane `n`. -/
def lane (n : ℕ) : (⟨1, ![16]⟩ : Shape).Idx := ix1 (Fin.ofNat 16 n)
theorem eq_lane (x : (⟨1, ![16]⟩ : Shape).Idx) : x = lane (x 0) := by
  rw [eq_ix1 x]; unfold lane; congr 1; exact Fin.ext (Nat.mod_eq_of_lt (Fin.isLt _)).symm

variable {sig : RefSig} {κ : Kind} {sp : Space} {e : EltTy} {Val : EltTy → Type} {A B C : ℕ} [NeZero A] [NeZero B] [NeZero C]

/-- Sixteen elements of a row of a rank-3 buffer, read as a vector. -/
theorem cast16_3 (f : (⟨3, ![A, B, C]⟩ : Shape).Idx → α) {off : Fin 3 → ℕ} {a b c : ℕ} (hoff : off = ![a, b, c])
    (inb : ∀ t, off t + (![1, 1, 16] : Fin 3 → ℕ) t ≤ (⟨3, ![A, B, C]⟩ : Shape).size t)
    (h : (⟨3, ![1, 1, 16]⟩ : Shape).ShapeCasts ⟨1, ![16]⟩) (x : (⟨1, ![16]⟩ : Shape).Idx) :
    shapeCast ⟨1, ![16]⟩ (fun y : (⟨3, ![1, 1, 16]⟩ : Shape).Idx => f ((Rect.unit (s := ⟨3, ![A, B, C]⟩) off ![1, 1, 16] inb).emb y)) h x
      = f (at3 a b (c + (x 0).val)) := by
  subst hoff
  rw [shapeCast_apply _ h x (ix3 (0 : Fin 1) (0 : Fin 1) (x 0)) (by
    rw [Shape.rowMajor_val_three, Shape.rowMajor_val_one]; show (0 * 1 + 0) * 16 + (x 0).val = _; simp)]
  congr 1
  refine eq_at3 _ ?_ ?_ ?_
  · show a + 1 * 0 = a; omega
  · show b + 1 * 0 = b; omega
  · show c + 1 * (x 0).val = _; omega

omit [NeZero C] in
/-- Sixteen elements of a row of a rank-2 buffer, read as a vector. -/
theorem cast16_2 (f : (⟨2, ![A, B]⟩ : Shape).Idx → α) {off : Fin 2 → ℕ} {a b : ℕ} (hoff : off = ![a, b])
    (inb : ∀ t, off t + (![1, 16] : Fin 2 → ℕ) t ≤ (⟨2, ![A, B]⟩ : Shape).size t)
    (h : (⟨2, ![1, 16]⟩ : Shape).ShapeCasts ⟨1, ![16]⟩) (x : (⟨1, ![16]⟩ : Shape).Idx) :
    shapeCast ⟨1, ![16]⟩ (fun y : (⟨2, ![1, 16]⟩ : Shape).Idx => f ((Rect.unit (s := ⟨2, ![A, B]⟩) off ![1, 16] inb).emb y)) h x
      = f (at2 a (b + (x 0).val)) := by
  subst hoff
  rw [shapeCast_apply _ h x (ix2 (0 : Fin 1) (x 0)) (by
    rw [Shape.rowMajor_val_two, Shape.rowMajor_val_one]; show 0 * 16 + (x 0).val = _; simp)]
  congr 1
  refine eq_at2 _ ?_ ?_
  · show a + 1 * 0 = a; omega
  · show b + 1 * (x 0).val = _; omega

/-- Storing a vector into sixteen elements of a row: those hold its lanes, the others what they held. -/
theorem write16 (v : View sig κ sp (⟨3, ![A, B, C]⟩ : Shape) e) (f : v.ty.Contents Val) {off : Fin 3 → ℕ} {a b c : ℕ} (hoff : off = ![a, b, c * 16])
    (inb : ∀ t, off t + (![1, 1, 16] : Fin 3 → ℕ) t ≤ (⟨3, ![A, B, C]⟩ : Shape).size t)
    (h : (⟨1, ![16]⟩ : Shape).ShapeCasts ⟨3, ![1, 1, 16]⟩) (w : (⟨1, ![16]⟩ : Shape).Idx → Val e) (y : (⟨3, ![A, B, C]⟩ : Shape).Idx) :
    v.read Val ((v.slice (Rect.unit off ![1, 1, 16] inb)).write Val f (shapeCast ⟨3, ![1, 1, 16]⟩ w h) Finset.univ) y
      = if (y 0).val = a ∧ (y 1).val = b ∧ (y 2).val / 16 = c then w (lane ((y 2).val % 16)) else v.read Val f y := by
  subst hoff
  split
  · next hy =>
    obtain ⟨h0, h1, h2⟩ := hy
    have hin : y = (Rect.unit (s := ⟨3, ![A, B, C]⟩) ![a, b, c * 16] ![1, 1, 16] inb).emb
        (ix3 (0 : Fin 1) (0 : Fin 1) (Fin.ofNat 16 ((y 2).val % 16))) := by
      have e : ∀ (k : ℕ), k / 16 = c → k = c * 16 + 1 * (k % 16 % 16) := fun k hk => by omega
      funext t
      refine Fin.ext ?_
      match t with
      | 0 => show (y 0).val = a + 1 * 0; omega
      | 1 => show (y 1).val = b + 1 * 0; omega
      | 2 => exact e _ h2
    conv_lhs => rw [hin]
    rw [View.read_slice_write_emb _ _ _ (Finset.mem_univ _), shapeCast_apply _ h _ (lane ((y 2).val % 16)) (by
      rw [Shape.rowMajor_val_three, Shape.rowMajor_val_one]
      show (y 2).val % 16 % 16 = (0 * 1 + 0) * 16 + (y 2).val % 16 % 16
      omega)]
  · next hy =>
    refine View.read_slice_write_of_not_mem _ _ _ _ ?_
    rw [Rect.map_emb_univ, Rect.mem_set_unit]
    intro hall
    have h0 := hall 0
    have h1 := hall 1
    have h2 := hall 2
    refine hy ⟨?_, ?_, ?_⟩
    · have : a ≤ (y 0).val ∧ (y 0).val < a + 1 := h0
      omega
    · have : b ≤ (y 1).val ∧ (y 1).val < b + 1 := h1
      omega
    · have : c * 16 ≤ (y 2).val ∧ (y 2).val < c * 16 + 16 := h2
      omega

end Sixteen

end Cert.Proof.Views
-- ==== Proof.Delay.lean ====
/-
  The delay of one pixel from one sensor, and the table of clipped delays the kernel looks delays up in, as functions of the
  sensors' grid coordinates. Float operations are those of any float instance.
-/
module

public import proofs.«01_k».proof.Proof.Sums

@[expose] public section

noncomputable section

namespace Cert.Proof.Delay

open Idealize.ShloMosaic Idealize.ShloMosaic.ValueIdx

variable {F : FTy → Type} [FloatOps F]

/-- One, the grid's spacing, the speed of sound and the length of a sample, each the float of its printed bits. -/
def one : F .f32 := FloatOps.ofBits .f32 0x3F800000#32
def step : F .f32 := FloatOps.ofBits .f32 0x38D1B717#32
def speed : F .f32 := FloatOps.ofBits .f32 0x44C1C000#32
def tick : F .f32 := FloatOps.ofBits .f32 0x32D6BF95#32
/-- The row offset of the table's row zero: 511. -/
def shift : F .f32 := FloatOps.ofBits .f32 0x43FF8000#32

/-- The delay in samples of a pixel that lies `u` grid steps from the sensor along the rows and `v` along the columns. -/
def delay (u v : F .f32) : BitVec 32 :=
  FloatOps.fptosi 32 (FloatOps.hostDivf (FloatOps.hostDivf (FloatOps.hostUnary .sqrt
    (FloatOps.addf (FloatOps.mulf (FloatOps.mulf u step) (FloatOps.mulf u step)) (FloatOps.mulf (FloatOps.mulf v step) (FloatOps.mulf v step))))
    speed) tick)

/-- How far coordinate `x` lies from the pixel of number `j`, whose coordinate is `j + 1`: `x - (1 + j) + 1`. -/
def apart (x : BitVec 32) (j : ℕ) : F .f32 :=
  FloatOps.addf (FloatOps.subf (FloatOps.sitofp .f32 x) (FloatOps.addf one (FloatOps.sitofp .f32 (BitVec.ofNat 32 j)))) one

/-- The same distance as the table's row `r` has it: `x + (r - 511)`. -/
def offset (x : BitVec 32) (r : ℕ) : F .f32 :=
  FloatOps.addf (FloatOps.sitofp .f32 x) (FloatOps.subf (FloatOps.sitofp .f32 (BitVec.ofNat 32 r)) shift)

/-- The table of delays, clipped to the samples' range, from the coordinates of sensor 0. -/
def table (a : (⟨2, ![512, 2]⟩ : Shape).Idx → BitVec 32) : (⟨2, ![1024, 512]⟩ : Shape).Idx → BitVec 32 := fun y =>
  IntOp.minsi 2047#32 (IntOp.maxsi 0#32 (delay (F := F) (offset (a (ix2 0 0)) (y 0).val) (apart (a (ix2 0 1)) (y 1).val)))

/-- A word clipped to 0 … 2047 is below 2048. -/
theorem clip_lt (t : BitVec 32) : (IntOp.minsi 2047#32 (IntOp.maxsi 0#32 t)).toNat < 2048 := by
  unfold IntOp.minsi IntOp.maxsi
  have h := t.toInt_eq_toNat_cond
  have h' := t.isLt
  split_ifs at * <;> simp_all [BitVec.sle, BitVec.slt] <;> omega

/-- A word of 0 … 2047 is its own clip. -/
theorem clip_of_lt {t : BitVec 32} (h : t.toNat < 2048) : IntOp.minsi 2047#32 (IntOp.maxsi 0#32 t) = t := by
  unfold IntOp.minsi IntOp.maxsi
  have h' := t.toInt_eq_toNat_cond
  split_ifs at * <;> simp_all [BitVec.sle, BitVec.slt] <;> first | omega | (apply BitVec.eq_of_toNat_eq; simp; omega)

theorem table_lt (a : (⟨2, ![512, 2]⟩ : Shape).Idx → BitVec 32) (y) : (table (F := F) a y).toNat < 2048 := clip_lt _

end Cert.Proof.Delay
-- ==== Proof.KernelIdealAddr.lean ====
/-
  Where the tile kernel's loads, stores and copies go: the offsets the loops' trips compute, in closed form; and what a
  load of sixteen delays, an indexed load of sixteen samples and a store of sixteen pixels read and leave.
-/
module

public import proofs.«01_k».proof.Kernel
public import proofs.«01_k».proof.Proof.Gen.KernelIdeal
public import proofs.«01_k».proof.Proof.Views

@[expose] public section

noncomputable section

namespace Cert.Proof.KernelIdeal

open Cert.KernelIdeal Cert.KernelIdeal.Gen
open Idealize.ShloMosaic Idealize.ShloMosaic.ValueIdx Cert.Proof.Sums Cert.Proof.Views

/-! ## The trips -/

theorem trips1 : k0_t1_loop.trips = 4 := by decide +kernel
theorem trips2 : k0_t2_loop.trips = 512 := by decide +kernel
theorem trips3 : k0_t3_loop.trips = 64 := by decide +kernel
theorem trips4 : k0_t4_loop.trips = 512 := by decide +kernel

/-! ## The offsets: trip `k` of a loop over the groups of sixteen pixels is row `k / 32`, columns from `16 (k % 32)` -/

theorem off1_eq : ∀ k : Fin k0_t2_loop.trips, k0_off1 k = ![0, k.val / 32, k.val % 32 * 16] := by decide +kernel
theorem off2_eq : ∀ k : Fin k0_t2_loop.trips, k0_off2 k = ![1, k.val / 32, k.val % 32 * 16] := by decide +kernel
theorem off5_eq : ∀ k : Fin k0_t4_loop.trips, k0_off5 k = ![0, k.val / 32, k.val % 32 * 16] := by decide +kernel
theorem off6_eq : ∀ k : Fin k0_t4_loop.trips, k0_off6 k = ![1, k.val / 32, k.val % 32 * 16] := by decide +kernel
theorem off7_eq : ∀ k : Fin k0_t4_loop.trips, k0_off7 k = ![0 + 15 - k.val / 32, k.val % 32 * 16] := by decide +kernel
theorem off8_eq : ∀ k : Fin k0_t4_loop.trips, k0_off8 k = ![1 + 15 - k.val / 32, k.val % 32 * 16] := by decide +kernel
theorem off9_eq : ∀ k : Fin k0_t4_loop.trips, k0_off9 k = ![2 + 15 - k.val / 32, k.val % 32 * 16] := by decide +kernel
theorem off10_eq : ∀ k : Fin k0_t4_loop.trips, k0_off10 k = ![3 + 15 - k.val / 32, k.val % 32 * 16] := by decide +kernel
theorem off11_eq : ∀ k : Fin k0_t4_loop.trips, k0_off11 k = ![4 + 15 - k.val / 32, k.val % 32 * 16] := by decide +kernel
theorem off12_eq : ∀ k : Fin k0_t4_loop.trips, k0_off12 k = ![5 + 15 - k.val / 32, k.val % 32 * 16] := by decide +kernel
theorem off13_eq : ∀ k : Fin k0_t4_loop.trips, k0_off13 k = ![6 + 15 - k.val / 32, k.val % 32 * 16] := by decide +kernel
theorem off14_eq : ∀ k : Fin k0_t4_loop.trips, k0_off14 k = ![7 + 15 - k.val / 32, k.val % 32 * 16] := by decide +kernel
theorem off15_eq : ∀ k : Fin k0_t4_loop.trips, k0_off15 k = ![0, k.val / 32, k.val % 32 * 16] := by decide +kernel
theorem off16_eq : ∀ k : Fin k0_t4_loop.trips, k0_off16 k = ![1, k.val / 32, k.val % 32 * 16] := by decide +kernel

/-! ## The buffers as the tile names them -/

/-- The samples, the delays, the result; and a tile's sample block, delay rows and accumulator. -/
abbrev sdV : Memref sig .scVector .hbm S8x512x2048 .f32 := Memref.whole main_v0_scv
abbrev tabV : Memref sig .scVector .hbm S1024x512 .i32 := Memref.whole main_v38_scv
abbrev outV : Memref sig .scVector .hbm S8x512x512 .f32 := Memref.whole main_v39_scv
abbrev bS : Memref sig .scVector .vmem S2x8x2048 .f32 := Memref.whole cc0_scratch0
abbrev bT : Memref sig .scVector .vmem S24x512 .i32 := Memref.whole cc0_scratch1
abbrev bA : Memref sig .scVector .vmem S2x16x512 .f32 := Memref.whole cc0_scratch2

/-- Plane `u` of the tile's sample block. -/
abbrev plane0 : Memref sig .scVector .vmem S8x2048 .f32 :=
  ((bS.slice (Rect.unit (s := S2x8x2048) ![0, 0, 0] S1x8x2048.size inb_S2x8x2048_S1x8x2048_0_0_0) (fun _ => rfl)).squeeze S8x2048 squeezes_S1x8x2048_S8x2048)
abbrev plane1 : Memref sig .scVector .vmem S8x2048 .f32 :=
  ((bS.slice (Rect.unit (s := S2x8x2048) ![1, 0, 0] S1x8x2048.size inb_S2x8x2048_S1x8x2048_1_0_0) (fun _ => rfl)).squeeze S8x2048 squeezes_S1x8x2048_S8x2048)

variable {F : FTy → Type}

/-- The whole rectangle of a view reads as the view. -/
theorem access_whole_emb {κ : Kind} {cs : Space} {s : Shape} {e : EltTy} (M : Memref sig κ cs s e) (y : s.Idx) :
    ((M.access (.whole s)).emb y : M.view.ty.shape.Idx) = M.view.emb y := by
  show M.view.emb ((Rect.whole s).emb y) = _
  congr 1
  funext a
  refine Fin.ext ?_
  rw [Rect.emb_apply]
  show 0 + 1 * (y a).val = _
  omega

/-- The sixteen delays a load finds, as a vector. -/
theorem delays_apply (f6 : S24x512.Idx → BitVec 32) {off : Fin 2 → ℕ} {a b : ℕ} (hoff : off = ![a, b])
    (inb : ∀ t, off t + S1x16.size t ≤ S24x512.size t) (x : S16.Idx) :
    (shapeCast S16 (bT.view.readAt (Elt F) (Rect.unit (s := S24x512) off S1x16.size inb).toLoadRect f6 : Vec F S1x16 .i32) shapeCasts_S1x16_S16) x
      = f6 (at2 a (b + (x 0).val)) :=
  cast16_2 (A := 24) (B := 512) f6 hoff inb shapeCasts_S1x16_S16 x

/-- The sixteen pixels a load finds, as a vector. -/
theorem pixels_apply (fa : S2x16x512.Idx → F .f32) {off : Fin 3 → ℕ} {a b c : ℕ} (hoff : off = ![a, b, c])
    (inb : ∀ t, off t + S1x1x16.size t ≤ S2x16x512.size t) (x : S16.Idx) :
    (shapeCast S16 (bA.view.readAt (Elt F) (Rect.unit (s := S2x16x512) off S1x1x16.size inb).toLoadRect fa : Vec F S1x1x16 .f32) shapeCasts_S1x1x16_S16) x
      = fa (at3 a b (c + (x 0).val)) :=
  cast16_3 (A := 2) (B := 16) (C := 512) fa hoff inb shapeCasts_S1x1x16_S16 x

/-- Storing sixteen pixels. -/
theorem store_apply (fa : S2x16x512.Idx → F .f32) {off : Fin 3 → ℕ} {a b c : ℕ} (hoff : off = ![a, b, c * 16])
    (inb : ∀ t, off t + S1x1x16.size t ≤ S2x16x512.size t) (w : FVec F S16 .f32) (y : S2x16x512.Idx) :
    ((bA.access (Rect.unit (s := S2x16x512) off S1x1x16.size inb)).write (Elt F) fa (shapeCast S1x1x16 w shapeCasts_S16_S1x1x16 : Vec F S1x1x16 .f32) Finset.univ
        : S2x16x512.Idx → F .f32) y
      = if (y 0).val = a ∧ (y 1).val = b ∧ (y 2).val / 16 = c then w (lane ((y 2).val % 16)) else fa y :=
  write16 (A := 2) (B := 16) (C := 512) (Val := Elt F) bA.view fa hoff inb shapeCasts_S16_S1x1x16 w y

/-- An indexed load of plane 0 of the sample block: lane `x` reads the sample its two indices name. -/
theorem gather0_apply (f5 : S2x8x2048.Idx → F .f32) (r f : IVec S16 32)
    (h : ∀ a x, ((![r, f] : Fin 2 → IVec S16 32) a x).toNat < S8x2048.size a) (x : S16.Idx) :
    loadIdx ((plane0.access (.whole S8x2048)).read (Elt F) f5 : Vec F S8x2048 .f32) ![r, f] h x
      = f5 (at3 0 (r x).toNat (f x).toNat) := by
  show f5 ((plane0.access (.whole S8x2048)).emb _) = _
  congr 1
  refine (access_whole_emb plane0 _).trans ?_
  refine (emb_plane (A := 2) (B := 8) (C := 2048) bS.view (a := 0) (b := 0) (c := 0) rfl inb_S2x8x2048_S1x8x2048_0_0_0
    squeezes_S1x8x2048_S8x2048.numel_eq _).trans ?_
  show at3 0 (0 + (r x).toNat) (0 + (f x).toNat) = _
  rw [Nat.zero_add, Nat.zero_add]

/-- An indexed load of plane 1 of the sample block. -/
theorem gather1_apply (f5 : S2x8x2048.Idx → F .f32) (r f : IVec S16 32)
    (h : ∀ a x, ((![r, f] : Fin 2 → IVec S16 32) a x).toNat < S8x2048.size a) (x : S16.Idx) :
    loadIdx ((plane1.access (.whole S8x2048)).read (Elt F) f5 : Vec F S8x2048 .f32) ![r, f] h x
      = f5 (at3 1 (r x).toNat (f x).toNat) := by
  show f5 ((plane1.access (.whole S8x2048)).emb _) = _
  congr 1
  refine (access_whole_emb plane1 _).trans ?_
  refine (emb_plane (A := 2) (B := 8) (C := 2048) bS.view (a := 1) (b := 0) (c := 0) rfl inb_S2x8x2048_S1x8x2048_1_0_0
    squeezes_S1x8x2048_S8x2048.numel_eq _).trans ?_
  show at3 1 (0 + (r x).toNat) (0 + (f x).toNat) = _
  rw [Nat.zero_add, Nat.zero_add]

end Cert.Proof.KernelIdeal
-- ==== Proof.KernelIdealBase.lean ====
/-
  The launch as the proof sees it: the program's one SparseCore call, the resource algebra (the handshakes' rounds beside
  the transfers' counters), a tile's thread, and the arrays as locations of a device.
-/
module

public import proofs.«01_k».proof.Proof.KernelIdealAddr
public import proofs.«01_k».proof.Proof.Gen.KernelIdeal.Skeleton
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.KernelIdeal

open Cert.KernelIdeal Cert.KernelIdeal.Gen
open Idealize.ShloMosaic Idealize.ShloMosaic.ValueIdx Cert.Proof.Sums Cert.Proof.Views
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
/-- The call's configuration. -/
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

/-- The handshakes' rounds are the left factor. -/
abbrev EH : Emb UH (MT nD τ sig (HIx 1) (Elt F) ℕ UU ℕ) := embL

/-- The SparseCore and the subcore of the tile at grid coordinates `L`, and its thread on device `d`. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The samples, the delays and the kernel's result as locations of device `d`. -/
abbrev sdLoc (d : Dev nD) : Loc nD τ sig := (SparseCore.T d).loc main_v0
abbrev tabLoc (d : Dev nD) : Loc nD τ sig := (SparseCore.T d).loc main_v38
abbrev outLoc (d : Dev nD) : Loc nD τ sig := (SparseCore.T d).loc main_v39

end Cert.Proof.KernelIdeal
-- ==== Proof.KernelIdealPixel.lean ====
/-
  One group of sixteen pixels of a tile: for each of eight sensors a load of sixteen delays and, for each of two planes,
  an indexed load of the samples at them, summed in the sensors' order onto the accumulator.
-/
module

public import proofs.«01_k».proof.Proof.KernelIdealBase

@[expose] public section

noncomputable section

namespace Cert.Proof.KernelIdeal

open Cert.KernelIdeal Cert.KernelIdeal.Gen
open Idealize.ShloMosaic Idealize.ShloMosaic.ValueIdx Cert.Proof.Sums Cert.Proof.Views
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Pixel

variable (d : Dev nD) (L : grid0.Coords)

/-- The tile's three scratch buffers at given contents. -/
abbrev bSPts (f5 : S2x8x2048.Idx → F .f32) : sProp 𝕄 := (thr d L).loc cc0_scratch0 ↦{fullShare} (f5 : Buf (Elt F) ((thr d L).loc cc0_scratch0))
abbrev bTPts (f6 : S24x512.Idx → BitVec 32) : sProp 𝕄 := (thr d L).loc cc0_scratch1 ↦{fullShare} (f6 : Buf (Elt F) ((thr d L).loc cc0_scratch1))
abbrev bAPts (fa : S2x16x512.Idx → F .f32) : sProp 𝕄 := (thr d L).loc cc0_scratch2 ↦{fullShare} (fa : Buf (Elt F) ((thr d L).loc cc0_scratch2))

/-- The sample lane `x` adds for sensor `c` to plane `u`, row `i`, columns from `j`. -/
def smp (f5 : S2x8x2048.Idx → F .f32) (f6 : S24x512.Idx → BitVec 32) (u i j c x : ℕ) : F .f32 :=
  f5 (at3 u c (f6 (at2 (c + 15 - i) (j + x))).toNat)

/-- A load of sixteen delays at the head of a program. -/
theorem wp_delays {α : Type} {Q : α → sProp 𝕄} (f6 : S24x512.Idx → BitVec 32) {off : Fin 2 → ℕ} {a b : ℕ} (hoff : off = ![a, b])
    {inb : ∀ t, off t + S1x16.size t ≤ S24x512.size t} {hl} {k : Vec F S1x16 .i32 → Prog (TpuEff nD τ sig (Elt F) Λ₀ (thr d L).2) α} :
    bTPts d L f6
      ⊢ iprop((∀ v : Vec F S1x16 .i32, ⌜∀ x : S16.Idx, (shapeCast S16 v shapeCasts_S1x16_S16 : IVec S16 32) x = f6 (at2 a (b + (x 0).val))⌝
          -∗ bTPts d L f6 -∗ wp frame (wpE (defs₀ (F := F)) 𝒱₀ (thr d L) none) Set.univ (k v) Q)
        -∗ wp frame (wpE (defs₀ (F := F)) 𝒱₀ (thr d L) none) Set.univ (.op (.load bT (Rect.unit (s := S24x512) off S1x16.size inb).toLoadRect hl) k) Q) := by
  iintro HT Hk
  iapply (wp_load 𝒱₀ (thr d L) none Set.univ (m := bT) (S := Finset.univ) (Finset.subset_univ _)) $$ HT; iintro HT
  iapply Hk $$ [] [HT]
  · ipureintro; exact fun x => delays_apply f6 hoff inb x
  · iexact HT

/-- The check that eight sensors' indices are in range and the two indexed loads after it, at the head of a program. -/
theorem wp_samples {α : Type} {Q : α → sProp 𝕄} (f5 : S2x8x2048.Idx → F .f32) (f6 : S24x512.Idx → BitVec 32)
    (h6 : ∀ y, (f6 y).toNat < 2048) {i j c : ℕ} (hc : c < 8)
    {chk : Prop} {dec : Decidable chk} {r f : IVec S16 32} (hr : ∀ x, (r x).toNat = c)
    (hf : ∀ x : S16.Idx, f x = f6 (at2 (c + 15 - i) (j + (x 0).val)))
    (hchk : (∀ a x, ((![r, f] : Fin 2 → IVec S16 32) a x).toNat < S8x2048.size a) → chk)
    {inb0 inb1 : chk → ∀ a x, ((![r, f] : Fin 2 → IVec S16 32) a x).toNat < S8x2048.size a} {hl0 hl1}
    {k : Vec F S16 .f32 → Vec F S16 .f32 → Prog (TpuEff nD τ sig (Elt F) Λ₀ (thr d L).2) α} :
    bSPts d L f5
      ⊢ iprop((∀ g0 : Vec F S16 .f32, ∀ g1 : Vec F S16 .f32, ⌜∀ x : S16.Idx, g0 x = smp f5 f6 0 i j c (x 0) ∧ g1 x = smp f5 f6 1 i j c (x 0)⌝
          -∗ bSPts d L f5 -∗ wp frame (wpE (defs₀ (F := F)) 𝒱₀ (thr d L) none) Set.univ (k g0 g1) Q)
        -∗ wp frame (wpE (defs₀ (F := F)) 𝒱₀ (thr d L) none) Set.univ (.op (.assume chk dec) fun h =>
            (SparseCore.vectorLoadIdx plane0 ![r, f] (inb0 h.down) hl0 >>= fun g0 =>
              SparseCore.vectorLoadIdx plane1 ![r, f] (inb1 h.down) hl1 >>= fun g1 => k g0 g1)) Q) := by
  have hin : ∀ a x, ((![r, f] : Fin 2 → IVec S16 32) a x).toNat < S8x2048.size a := by
    intro a x
    match a with
    | 0 => show (r x).toNat < 8; rw [hr]; exact hc
    | 1 => show (f x).toNat < 2048; rw [hf]; exact h6 _
  iintro HS Hk
  rw [wp_assume_of _ _ _ _ (hchk hin)]
  iapply (SparseCore.wp_vectorLoadIdx 𝒱₀ (thr d L) none Set.univ (base := plane0) (S := Finset.univ) (q := fullShare) (f := f5) (Finset.subset_univ _)) $$ HS; iintro HS
  iapply (SparseCore.wp_vectorLoadIdx 𝒱₀ (thr d L) none Set.univ (base := plane1) (S := Finset.univ) (q := fullShare) (f := f5) (Finset.subset_univ _)) $$ HS; iintro HS
  iapply Hk $$ [] [HS]
  · ipureintro
    intro x
    rw [gather0_apply, gather1_apply, hr, hf]
    exact ⟨rfl, rfl⟩
  · iexact HS

/-- The sum of the first `n` sensors at lane `x` of plane `u`, row `i`, columns from `j`, on the accumulator `fa`. -/
def sums (f5 : S2x8x2048.Idx → F .f32) (f6 : S24x512.Idx → BitVec 32) (fa : S2x16x512.Idx → F .f32) (u i j n x : ℕ) : F .f32 :=
  chain (fa (at3 u i (j + x))) (fun c => smp f5 f6 u i j c x) n

/-- The part of a trip that loads the accumulator's sixteen pixels of both planes and the first sensor's delays. -/
theorem part1_spec (fa : S2x16x512.Idx → F .f32) (f5 : S2x8x2048.Idx → F .f32) (f6 : S24x512.Idx → BitVec 32) (a b : BitVec 32) (k : Fin k0_t4_loop.trips)
    (Q : (Σ' (_ : BitVec 32) (_ : BitVec 32) (_ : Vec F S16 .f32) (_ : Vec F S16 .f32), Vec F S1x16 .i32) → sProp 𝕄) :
    iprop(bAPts d L fa ∗ bTPts d L f6 ∗
        (∀ (p q : BitVec 32) (a0 a1 : Vec F S16 .f32) (v : Vec F S1x16 .i32),
          ⌜∀ x : S16.Idx, a0 x = sums f5 f6 fa 0 (k.val / 32) (k.val % 32 * 16) 0 (x 0)
              ∧ a1 x = sums f5 f6 fa 1 (k.val / 32) (k.val % 32 * 16) 0 (x 0)
              ∧ (shapeCast S16 v shapeCasts_S1x16_S16 : IVec S16 32) x = f6 (at2 (0 + 15 - k.val / 32) (k.val % 32 * 16 + (x 0).val))⌝
            -∗ bAPts d L fa -∗ bTPts d L f6 -∗ Q ⟨p, q, a0, a1, v⟩))
      ⊢ wp frame (wpE (defs₀ (F := F)) 𝒱₀ (thr d L) none) Set.univ
          (k0_part1 (F := F) L sdV (Memref.isWhole_whole _) tabV (Memref.isWhole_whole _) outV (Memref.isWhole_whole _)
            bS (Memref.isWhole_whole _) bT (Memref.isWhole_whole _) bA (Memref.isWhole_whole _)
            cc0_scoped0 cc0_scoped1 cc0_scoped2 cc0_scoped3 cc0_scoped4 a b k) Q := by
  rw [k0_part1_eq_skeleton]; unfold k0_part1_skel
  simp only [Prog.lift, Prog.bind_op, Prog.bind_ret, Prog.pure_eq_ret]
  iintro ⟨HA, HT, Hk⟩
  iapply (wp_load 𝒱₀ (thr d L) none Set.univ (m := bA) (S := Finset.univ) (Finset.subset_univ _)) $$ HA; iintro HA
  iapply (wp_load 𝒱₀ (thr d L) none Set.univ (m := bA) (S := Finset.univ) (Finset.subset_univ _)) $$ HA; iintro HA
  iapply (wp_delays d L f6 (off7_eq k)) $$ HT; iintro %v %hv HT
  rw [wp_ret]; imodintro
  iapply Hk $$ [] [HA] [HT]
  · ipureintro
    exact fun x => ⟨pixels_apply fa (off5_eq k) (k0_off5_inb k) x, pixels_apply fa (off6_eq k) (k0_off6_inb k) x, hv x⟩
  · iexact HA
  · iexact HT

/-- The part of a trip that adds sensors 0, 1 and 2. -/
theorem part2_spec (fa : S2x16x512.Idx → F .f32) (f5 : S2x8x2048.Idx → F .f32) (f6 : S24x512.Idx → BitVec 32) (h6 : ∀ y, (f6 y).toNat < 2048)
    (k : Fin k0_t4_loop.trips) (p q : BitVec 32) (a0 a1 : Vec F S16 .f32) (v : Vec F S1x16 .i32)
    (hv : ∀ x : S16.Idx, a0 x = sums f5 f6 fa 0 (k.val / 32) (k.val % 32 * 16) 0 (x 0)
        ∧ a1 x = sums f5 f6 fa 1 (k.val / 32) (k.val % 32 * 16) 0 (x 0)
        ∧ (shapeCast S16 v shapeCasts_S1x16_S16 : IVec S16 32) x = f6 (at2 (0 + 15 - k.val / 32) (k.val % 32 * 16 + (x 0).val)))
    (Q : (Σ' (_ : FVec F S16 .f32) (_ : FVec F S16 .f32), BitVec 32) → sProp 𝕄) :
    iprop(bSPts d L f5 ∗ bTPts d L f6 ∗
        (∀ (b0 b1 : FVec F S16 .f32) (r : BitVec 32),
          ⌜∀ x : S16.Idx, b0 x = sums f5 f6 fa 0 (k.val / 32) (k.val % 32 * 16) 3 (x 0)
              ∧ b1 x = sums f5 f6 fa 1 (k.val / 32) (k.val % 32 * 16) 3 (x 0)⌝
            -∗ bSPts d L f5 -∗ bTPts d L f6 -∗ Q ⟨b0, b1, r⟩))
      ⊢ wp frame (wpE (defs₀ (F := F)) 𝒱₀ (thr d L) none) Set.univ
          (k0_part2 (F := F) L sdV (Memref.isWhole_whole _) tabV (Memref.isWhole_whole _) outV (Memref.isWhole_whole _)
            bS (Memref.isWhole_whole _) bT (Memref.isWhole_whole _) bA (Memref.isWhole_whole _)
            cc0_scoped0 cc0_scoped1 cc0_scoped2 cc0_scoped3 cc0_scoped4 k0_pay2 k0_pay3 k0_pay4 k p q a0 a1 v) Q := by
  rw [k0_part2_eq_skeleton]; unfold k0_part2_skel
  simp only [Prog.lift, Prog.bind_op, Prog.bind_ret, Prog.pure_eq_ret]
  iintro ⟨HS, HT, Hk⟩
  iapply (wp_samples d L f5 f6 h6 (c := 0) (i := k.val / 32) (j := k.val % 32 * 16) (by decide) (r := k0_pay2) (fun _ => rfl)
    (fun x => (hv x).2.2) (fun h => ⟨h, h⟩)) $$ HS; iintro %g0 %g0' %hg0 HS
  iapply (wp_delays d L f6 (off8_eq k)) $$ HT; iintro %v1 %hv1 HT
  iapply (wp_samples d L f5 f6 h6 (c := 1) (i := k.val / 32) (j := k.val % 32 * 16) (by decide) (r := k0_pay3) (fun _ => rfl)
    hv1 (fun h => ⟨h, h⟩)) $$ HS; iintro %g1 %g1' %hg1 HS
  iapply (wp_delays d L f6 (off9_eq k)) $$ HT; iintro %v2 %hv2 HT
  iapply (wp_samples d L f5 f6 h6 (c := 2) (i := k.val / 32) (j := k.val % 32 * 16) (by decide) (r := k0_pay4) (fun _ => rfl)
    hv2 (fun h => ⟨h, h⟩)) $$ HS; iintro %g2 %g2' %hg2 HS
  rw [wp_ret]; imodintro
  iapply Hk $$ [] [HS] [HT]
  · ipureintro
    intro x
    constructor
    · show FloatOps.addf (FloatOps.addf (FloatOps.addf (a0 x) (g0 x)) (g1 x)) (g2 x) = _
      rw [(hv x).1, (hg0 x).1, (hg1 x).1, (hg2 x).1]; rfl
    · show FloatOps.addf (FloatOps.addf (FloatOps.addf (a1 x) (g0' x)) (g1' x)) (g2' x) = _
      rw [(hv x).2.1, (hg0 x).2, (hg1 x).2, (hg2 x).2]; rfl
  · iexact HS
  · iexact HT

/-- The part of a trip that adds sensors 3, 4 and 5, the last one's second plane excepted. -/
theorem part3_spec (fa : S2x16x512.Idx → F .f32) (f5 : S2x8x2048.Idx → F .f32) (f6 : S24x512.Idx → BitVec 32) (h6 : ∀ y, (f6 y).toNat < 2048)
    (k : Fin k0_t4_loop.trips) (p q r : BitVec 32) (b0 b1 : FVec F S16 .f32)
    (hb : ∀ x : S16.Idx, b0 x = sums f5 f6 fa 0 (k.val / 32) (k.val % 32 * 16) 3 (x 0)
        ∧ b1 x = sums f5 f6 fa 1 (k.val / 32) (k.val % 32 * 16) 3 (x 0))
    (Q : (Σ' (_ : FVec F S16 .f32) (_ : FVec F S16 .f32), Vec F S16 .f32) → sProp 𝕄) :
    iprop(bSPts d L f5 ∗ bTPts d L f6 ∗
        (∀ (c1 c0 : FVec F S16 .f32) (g : Vec F S16 .f32),
          ⌜∀ x : S16.Idx, c1 x = sums f5 f6 fa 1 (k.val / 32) (k.val % 32 * 16) 5 (x 0)
              ∧ c0 x = sums f5 f6 fa 0 (k.val / 32) (k.val % 32 * 16) 6 (x 0)
              ∧ g x = smp f5 f6 1 (k.val / 32) (k.val % 32 * 16) 5 (x 0)⌝
            -∗ bSPts d L f5 -∗ bTPts d L f6 -∗ Q ⟨c1, c0, g⟩))
      ⊢ wp frame (wpE (defs₀ (F := F)) 𝒱₀ (thr d L) none) Set.univ
          (k0_part3 (F := F) L sdV (Memref.isWhole_whole _) tabV (Memref.isWhole_whole _) outV (Memref.isWhole_whole _)
            bS (Memref.isWhole_whole _) bT (Memref.isWhole_whole _) bA (Memref.isWhole_whole _)
            cc0_scoped0 cc0_scoped1 cc0_scoped2 cc0_scoped3 cc0_scoped4 k0_pay5 k0_pay6 k0_pay7 k p q b0 b1 r) Q := by
  rw [k0_part3_eq_skeleton]; unfold k0_part3_skel
  simp only [Prog.lift, Prog.bind_op, Prog.bind_ret, Prog.pure_eq_ret]
  iintro ⟨HS, HT, Hk⟩
  iapply (wp_delays d L f6 (off10_eq k)) $$ HT; iintro %v3 %hv3 HT
  iapply (wp_samples d L f5 f6 h6 (c := 3) (i := k.val / 32) (j := k.val % 32 * 16) (by decide) (r := k0_pay5) (fun _ => rfl)
    hv3 (fun h => ⟨h, h⟩)) $$ HS; iintro %g3 %g3' %hg3 HS
  iapply (wp_delays d L f6 (off11_eq k)) $$ HT; iintro %v4 %hv4 HT
  iapply (wp_samples d L f5 f6 h6 (c := 4) (i := k.val / 32) (j := k.val % 32 * 16) (by decide) (r := k0_pay6) (fun _ => rfl)
    hv4 (fun h => ⟨h, h⟩)) $$ HS; iintro %g4 %g4' %hg4 HS
  iapply (wp_delays d L f6 (off12_eq k)) $$ HT; iintro %v5 %hv5 HT
  iapply (wp_samples d L f5 f6 h6 (c := 5) (i := k.val / 32) (j := k.val % 32 * 16) (by decide) (r := k0_pay7) (fun _ => rfl)
    hv5 (fun h => ⟨h, h⟩)) $$ HS; iintro %g5 %g5' %hg5 HS
  rw [wp_ret]; imodintro
  iapply Hk $$ [] [HS] [HT]
  · ipureintro
    intro x
    refine ⟨?_, ?_, (hg5 x).2⟩
    · show FloatOps.addf (FloatOps.addf (b1 x) (g3' x)) (g4' x) = _
      rw [(hb x).2, (hg3 x).2, (hg4 x).2]; rfl
    · show FloatOps.addf (FloatOps.addf (FloatOps.addf (b0 x) (g3 x)) (g4 x)) (g5 x) = _
      rw [(hb x).1, (hg3 x).1, (hg4 x).1, (hg5 x).1]; rfl
  · iexact HS
  · iexact HT

/-- What the two stores of trip `k` leave: group `k` fresh as well. -/
theorem pix_step (fa : S2x16x512.Idx → F .f32) (f5 : S2x8x2048.Idx → F .f32) (f6 : S24x512.Idx → BitVec 32) (k : Fin k0_t4_loop.trips)
    (w0 w1 : FVec F S16 .f32)
    (hw : ∀ x : S16.Idx, w0 x = sums f5 f6 (pix f5 f6 fa k) 0 (k.val / 32) (k.val % 32 * 16) 8 (x 0)
      ∧ w1 x = sums f5 f6 (pix f5 f6 fa k) 1 (k.val / 32) (k.val % 32 * 16) 8 (x 0)) :
    ((bA.access (Rect.unit (s := S2x16x512) (k0_off16 k) S1x1x16.size (k0_off16_inb k))).write (Elt F)
      ((bA.access (Rect.unit (s := S2x16x512) (k0_off15 k) S1x1x16.size (k0_off15_inb k))).write (Elt F) (pix f5 f6 fa k)
        (shapeCast S1x1x16 w0 shapeCasts_S16_S1x1x16 : Vec F S1x1x16 .f32) Finset.univ)
      (shapeCast S1x1x16 w1 shapeCasts_S16_S1x1x16 : Vec F S1x1x16 .f32) Finset.univ : S2x16x512.Idx → F .f32)
      = pix f5 f6 fa (k.val + 1) := by
  funext y
  refine (store_apply _ (off16_eq k) (k0_off16_inb k) w1 y).trans ?_
  have h0 : (y 0).val < 2 := (y 0).isLt
  have h1 : (y 1).val < 16 := (y 1).isLt
  have h2 : (y 2).val < 512 := (y 2).isLt
  -- an element of group `k` takes the sum of its own plane
  have key : ∀ (u : ℕ) (w : FVec F S16 .f32), (∀ x : S16.Idx, w x = sums f5 f6 (pix f5 f6 fa k) u (k.val / 32) (k.val % 32 * 16) 8 (x 0)) →
      (y 0).val = u → (y 1).val = k.val / 32 → (y 2).val / 16 = k.val % 32 → w (lane ((y 2).val % 16)) = pix f5 f6 fa (k.val + 1) y := by
    intro u w hwu e0 e1 e2
    rw [hwu]
    have el : ((lane ((y 2).val % 16) : S16.Idx) 0).val = (y 2).val % 16 := Nat.mod_mod _ _
    have ej : k.val % 32 * 16 + (y 2).val % 16 = (y 2).val := by omega
    rw [el]
    unfold sums smp
    rw [ej, ← e1, ← e0]
    rw [show (at3 (y 0).val (y 1).val (y 2).val : S2x16x512.Idx) = y from (eq_at3 y rfl rfl rfl).symm]
    unfold pix fresh
    rw [if_neg (by omega), if_pos (by omega)]
  by_cases c1 : (y 0).val = 1 ∧ (y 1).val = k.val / 32 ∧ (y 2).val / 16 = k.val % 32
  · rw [if_pos c1]
    exact key 1 w1 (fun x => (hw x).2) c1.1 c1.2.1 c1.2.2
  · rw [if_neg c1]
    refine (store_apply _ (off15_eq k) (k0_off15_inb k) w0 y).trans ?_
    by_cases c0 : (y 0).val = 0 ∧ (y 1).val = k.val / 32 ∧ (y 2).val / 16 = k.val % 32
    · rw [if_pos c0]
      exact key 0 w0 (fun x => (hw x).1) c0.1 c0.2.1 c0.2.2
    · rw [if_neg c0]
      unfold pix
      by_cases c : (y 1).val * 32 + (y 2).val / 16 < k.val
      · rw [if_pos c, if_pos (by omega)]
      · rw [if_neg c, if_neg (by omega)]

/-- One trip of the loop over the groups of sixteen pixels: group `k` fresh as well. -/
theorem pixel_trip (fa : S2x16x512.Idx → F .f32) (f5 : S2x8x2048.Idx → F .f32) (f6 : S24x512.Idx → BitVec 32) (h6 : ∀ y, (f6 y).toNat < 2048)
    (a b : BitVec 32) (k : Fin k0_t4_loop.trips) :
    iprop(bAPts d L (pix f5 f6 fa k) ∗ bSPts d L f5 ∗ bTPts d L f6)
      ⊢ wp frame (wpE (defs₀ (F := F)) 𝒱₀ (thr d L) none) Set.univ
          (k0_part4 (F := F) L sdV (Memref.isWhole_whole _) tabV (Memref.isWhole_whole _) outV (Memref.isWhole_whole _)
            bS (Memref.isWhole_whole _) bT (Memref.isWhole_whole _) bA (Memref.isWhole_whole _)
            cc0_scoped0 cc0_scoped1 cc0_scoped2 cc0_scoped3 cc0_scoped4 k0_pay2 k0_pay3 k0_pay4 k0_pay5 k0_pay6 k0_pay7 k0_pay8 k0_pay9 a b k)
          fun _ => iprop(bAPts d L (pix f5 f6 fa (k.val + 1)) ∗ bSPts d L f5 ∗ bTPts d L f6) := by
  rw [k0_part4_eq_skeleton]; unfold k0_part4_skel
  rw [wp_bind]
  iintro ⟨HA, HS, HT⟩
  iapply (part1_spec d L (pix f5 f6 fa k) f5 f6 a b k)
  isplitl [HA]; · iexact HA
  isplitl [HT]; · iexact HT
  iintro %p %q %a0 %a1 %v %hv HA HT
  dsimp only
  rw [wp_bind]
  iapply (part2_spec d L (pix f5 f6 fa k) f5 f6 h6 k p q a0 a1 v hv)
  isplitl [HS]; · iexact HS
  isplitl [HT]; · iexact HT
  iintro %b0 %b1 %r %hb HS HT
  dsimp only
  rw [wp_bind]
  iapply (part3_spec d L (pix f5 f6 fa k) f5 f6 h6 k p q r b0 b1 hb)
  isplitl [HS]; · iexact HS
  isplitl [HT]; · iexact HT
  iintro %c1 %c0 %g %hc HS HT
  simp only [Prog.lift, Prog.bind_op, Prog.bind_ret, Prog.pure_eq_ret]
  iapply (wp_delays d L f6 (off13_eq k)) $$ HT; iintro %v6 %hv6 HT
  iapply (wp_samples d L f5 f6 h6 (c := 6) (i := k.val / 32) (j := k.val % 32 * 16) (by decide) (r := k0_pay8) (fun _ => rfl)
    hv6 (fun h => ⟨h, h⟩)) $$ HS; iintro %g6 %g6' %hg6 HS
  iapply (wp_delays d L f6 (off14_eq k)) $$ HT; iintro %v7 %hv7 HT
  iapply (wp_samples d L f5 f6 h6 (c := 7) (i := k.val / 32) (j := k.val % 32 * 16) (by decide) (r := k0_pay9) (fun _ => rfl)
    hv7 (fun h => ⟨h, h⟩)) $$ HS; iintro %g7 %g7' %hg7 HS
  have hw : ∀ x : S16.Idx, k0_pay16 c0 g6 g7 x = sums f5 f6 (pix f5 f6 fa k) 0 (k.val / 32) (k.val % 32 * 16) 8 (x 0)
      ∧ k0_pay17 c1 g g6' g7' x = sums f5 f6 (pix f5 f6 fa k) 1 (k.val / 32) (k.val % 32 * 16) 8 (x 0) := by
    intro x
    constructor
    · show FloatOps.addf (FloatOps.addf (c0 x) (g6 x)) (g7 x) = _
      rw [(hc x).2.1, (hg6 x).1, (hg7 x).1]; rfl
    · show FloatOps.addf (FloatOps.addf (FloatOps.addf (c1 x) (g x)) (g6' x)) (g7' x) = _
      rw [(hc x).1, (hc x).2.2, (hg6 x).2, (hg7 x).2]; rfl
  iapply (wp_load 𝒱₀ (thr d L) none Set.univ (m := bA) (S := Finset.univ) (Finset.subset_univ _)) $$ HA; iintro HA
  iapply (wp_store 𝒱₀ (thr d L) none Set.univ (m := bA) (r := Rect.unit (s := S2x16x512) (k0_off15 k) S1x1x16.size (k0_off15_inb k)) (Mk := Finset.univ) (S := Finset.univ) (Finset.subset_univ _)) $$ HA; iintro HA
  iapply (wp_load 𝒱₀ (thr d L) none Set.univ (m := bA) (S := Finset.univ) (Finset.subset_univ _)) $$ HA; iintro HA
  iapply (wp_store 𝒱₀ (thr d L) none Set.univ (m := bA) (r := Rect.unit (s := S2x16x512) (k0_off16 k) S1x1x16.size (k0_off16_inb k)) (Mk := Finset.univ) (S := Finset.univ) (Finset.subset_univ _)) $$ HA; iintro HA
  rw [wp_ret]; imodintro
  isplitl [HA]
  · rw [← pix_step fa f5 f6 k _ _ hw]
    iexact HA
  isplitl [HS] <;> iassumption

end Pixel

end Cert.Proof.KernelIdeal
-- ==== Proof.KernelIdealCopy.lean ====
/-
  The copies a tile makes, one at a time: a plane of samples and a block of delay rows in, a plane of sums out; and what
  the buffers hold after them.
-/
module

public import proofs.«01_k».proof.Proof.KernelIdealPixel

@[expose] public section

noncomputable section

namespace Cert.Proof.KernelIdeal

open Cert.KernelIdeal Cert.KernelIdeal.Gen
open Idealize.ShloMosaic Idealize.ShloMosaic.ValueIdx Cert.Proof.Sums Cert.Proof.Views
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The windows copied -/

abbrev sdP (off : Fin 3 → ℕ) (inb : ∀ t, off t + S1x8x2048.size t ≤ S8x512x2048.size t) : Memref sig .scVector .hbm S8x2048 .f32 :=
  (sdV.slice (Rect.unit (s := S8x512x2048) off S1x8x2048.size inb) (fun _ => rfl)).squeeze S8x2048 squeezes_S1x8x2048_S8x2048
abbrev tabR (off : Fin 2 → ℕ) (inb : ∀ t, off t + S24x512.size t ≤ S1024x512.size t) : Memref sig .scVector .hbm S24x512 .i32 :=
  tabV.slice (Rect.unit (s := S1024x512) off S24x512.size inb) (fun _ => rfl)
abbrev outP (off : Fin 3 → ℕ) (inb : ∀ t, off t + S1x16x512.size t ≤ S8x512x512.size t) : Memref sig .scVector .hbm S16x512 .f32 :=
  (outV.slice (Rect.unit (s := S8x512x512) off S1x16x512.size inb) (fun _ => rfl)).squeeze S16x512 squeezes_S1x16x512_S16x512
abbrev accP (off : Fin 3 → ℕ) (inb : ∀ t, off t + S1x16x512.size t ≤ S2x16x512.size t) : Memref sig .scVector .vmem S16x512 .f32 :=
  (bA.slice (Rect.unit (s := S2x16x512) off S1x16x512.size inb) (fun _ => rfl)).squeeze S16x512 squeezes_S1x16x512_S16x512
abbrev blkP (off : Fin 3 → ℕ) (inb : ∀ t, off t + S1x8x2048.size t ≤ S2x8x2048.size t) : Memref sig .scVector .vmem S8x2048 .f32 :=
  (bS.slice (Rect.unit (s := S2x8x2048) off S1x8x2048.size inb) (fun _ => rfl)).squeeze S8x2048 squeezes_S1x8x2048_S8x2048

section Values
omit [FloatOps F]

/-- A plane of samples as a copy reads it. -/
theorem sdP_read (sd : S8x512x2048.Idx → F .f32) {off : Fin 3 → ℕ} {a b : ℕ} (hoff : off = ![a, b, 0])
    (inb : ∀ t, off t + S1x8x2048.size t ≤ S8x512x2048.size t) (x : S8x2048.Idx) :
    ((sdP off inb).view.read (Elt F) sd : S8x2048.Idx → F .f32) x = sd (at3 a (b + (x 0).val) (x 1)) := by
  show sd ((sdP off inb).view.emb x) = _
  refine congrArg sd ((emb_plane (A := 8) (B := 512) (C := 2048) (B' := 8) (C' := 2048) sdV.view hoff inb _ x).trans ?_)
  show at3 a (b + (x 0).val) (0 + (x 1).val) = _
  rw [Nat.zero_add]

/-- A plane of sums as a copy reads it. -/
theorem accP_read (fa : S2x16x512.Idx → F .f32) {off : Fin 3 → ℕ} {a : ℕ} (hoff : off = ![a, 0, 0])
    (inb : ∀ t, off t + S1x16x512.size t ≤ S2x16x512.size t) (x : S16x512.Idx) :
    ((accP off inb).view.read (Elt F) fa : S16x512.Idx → F .f32) x = fa (at3 a (x 0) (x 1)) := by
  show fa ((accP off inb).view.emb x) = _
  refine congrArg fa ((emb_plane (A := 2) (B := 16) (C := 512) (B' := 16) (C' := 512) bA.view hoff inb _ x).trans ?_)
  show at3 a (0 + (x 0).val) (0 + (x 1).val) = _
  rw [Nat.zero_add, Nat.zero_add]

/-- A block of delay rows lands as those rows. -/
theorem rows_landed (tab : S1024x512.Idx → BitVec 32) (f6 : S24x512.Idx → BitVec 32) {off : Fin 2 → ℕ} {r : ℕ} (hoff : off = ![r, 0])
    (inb : ∀ t, off t + S24x512.size t ≤ S1024x512.size t) :
    (bT.view.write (Elt F) f6 ((tabR off inb).view.read (Elt F) tab) Finset.univ : S24x512.Idx → BitVec 32) = rows tab r := by
  refine (View.write_whole_univ _ _ _).trans ?_
  funext x
  show tab ((Rect.unit (s := S1024x512) off S24x512.size inb).emb x) = tab (at2 (r + (x 0).val) (x 1))
  subst hoff
  congr 1
  refine eq_at2 _ ?_ ?_
  · show r + 1 * (x 0).val = _; omega
  · show 0 + 1 * (x 1).val = _; omega

/-- Two planes of samples land as the sample block of those planes. -/
theorem blk_landed (sd : S8x512x2048.Idx → F .f32) (f5 : S2x8x2048.Idx → F .f32) {o0 o1 : Fin 3 → ℕ} {p c0 : ℕ}
    (h0 : o0 = ![2 * p + 0, c0, 0]) (h1 : o1 = ![2 * p + 1, c0, 0]) (inb0 : ∀ t, o0 t + S1x8x2048.size t ≤ S8x512x2048.size t)
    (inb1 : ∀ t, o1 t + S1x8x2048.size t ≤ S8x512x2048.size t) (jnb0 : ∀ t, (![0, 0, 0] : Fin 3 → ℕ) t + S1x8x2048.size t ≤ S2x8x2048.size t)
    (jnb1 : ∀ t, (![1, 0, 0] : Fin 3 → ℕ) t + S1x8x2048.size t ≤ S2x8x2048.size t) :
    ((blkP ![1, 0, 0] jnb1).view.write (Elt F) ((blkP ![0, 0, 0] jnb0).view.write (Elt F) f5 ((sdP o0 inb0).view.read (Elt F) sd) Finset.univ)
        ((sdP o1 inb1).view.read (Elt F) sd) Finset.univ : S2x8x2048.Idx → F .f32) = blk sd p c0 := by
  funext y
  have hy0 : (y 0).val < 2 := (y 0).isLt
  have hy1 : (y 1).val < 8 := (y 1).isLt
  have hy2 : (y 2).val < 2048 := (y 2).isLt
  have hr : ∀ {o : Fin 3 → ℕ} {a : ℕ} (_ : o = ![a, c0, 0]) (inb : ∀ t, o t + S1x8x2048.size t ≤ S8x512x2048.size t),
      ((sdP o inb).view.read (Elt F) sd : S8x2048.Idx → F .f32) (at2 ((y 1).val - 0) (y 2)) = sd (at3 a (c0 + (y 1).val) (y 2)) := by
    intro o a ho inb
    rw [sdP_read sd ho inb, at2_0 (by omega), at2_1 hy2, Nat.sub_zero]
  refine (write_plane (A := 2) (B := 8) (C := 2048) (B' := 8) (Val := Elt F) bS.view _ rfl jnb1 _ _ y).trans ?_
  unfold blk
  by_cases hy : (y 0).val = 1
  · rw [if_pos ⟨hy, Nat.zero_le _, by omega⟩, hr h1 inb1, hy]
  · rw [if_neg fun h => hy h.1]
    refine (write_plane (A := 2) (B := 8) (C := 2048) (B' := 8) (Val := Elt F) bS.view f5 rfl jnb0 _ _ y).trans ?_
    have hz : (y 0).val = 0 := by omega
    rw [if_pos ⟨hz, Nat.zero_le _, by omega⟩, hr h0 inb0, hz]

/-- A tile's first row of every plane. -/
def row0 (L : grid0.Coords) : ℕ := 32 * (L 1).val + 16 * (L 0).val
theorem row0_le (L : grid0.Coords) : row0 L ≤ 496 := by
  have h0 : (L 0).val < 2 := (L 0).isLt
  have h1 : (L 1).val < 16 := (L 1).isLt
  unfold row0; omega

/-- The elements of the result that the tile computes: its sixteen rows of every plane. -/
def mine (L : grid0.Coords) : Finset S8x512x512.Idx :=
  Finset.univ.filter fun y => row0 L ≤ (y 1).val ∧ (y 1).val < row0 L + 16
theorem mem_mine {L : grid0.Coords} {y : S8x512x512.Idx} : y ∈ mine L ↔ row0 L ≤ (y 1).val ∧ (y 1).val < row0 L + 16 := by
  simp [mine]

/-- A plane the tile writes is among its elements. -/
theorem outP_mine (L : grid0.Coords) {off : Fin 3 → ℕ} {a : ℕ} (hoff : off = ![a, row0 L, 0])
    (inb : ∀ t, off t + S1x16x512.size t ≤ S8x512x512.size t) : ((outP off inb).view.set : Finset S8x512x512.Idx) ⊆ mine L := by
  intro y hy
  have hy' : y ∈ (Rect.unit (s := S8x512x512) off S1x16x512.size inb).set := by
    have e : ((outP off inb).view.set : Finset S8x512x512.Idx) = (Rect.unit (s := S8x512x512) off S1x16x512.size inb).set :=
      (View.set_reshape _ _).trans (View.set_slice_whole _ _)
    rw [e] at hy; exact hy
  rw [Rect.mem_set_unit] at hy'
  subst hoff
  have h := hy' 1
  exact mem_mine.mpr ⟨h.1, h.2⟩

end Values

/-- Both planes written out: of the tile's elements those of planes below `2 p + 2` hold the result, if before those below
    `2 p` did and the accumulator holds all 512 sensors' sums of planes `2 p` and `2 p + 1`. -/
theorem out_landed (z : F .f32) (sd : S8x512x2048.Idx → F .f32) (tab : S1024x512.Idx → BitVec 32) (L : grid0.Coords) (g : S8x512x512.Idx → F .f32)
    {o0 o1 : Fin 3 → ℕ} {p : ℕ} (h0 : o0 = ![2 * p + 0, row0 L, 0]) (h1 : o1 = ![2 * p + 1, row0 L, 0])
    (inb0 : ∀ t, o0 t + S1x16x512.size t ≤ S8x512x512.size t) (inb1 : ∀ t, o1 t + S1x16x512.size t ≤ S8x512x512.size t)
    (jnb0 : ∀ t, (![0, 0, 0] : Fin 3 → ℕ) t + S1x16x512.size t ≤ S2x16x512.size t)
    (jnb1 : ∀ t, (![1, 0, 0] : Fin 3 → ℕ) t + S1x16x512.size t ≤ S2x16x512.size t)
    (hg : ∀ y ∈ mine L, (y 0).val < 2 * p → g y = das z sd tab y) :
    ∀ y ∈ mine L, (y 0).val < 2 * (p + 1) →
      ((outP o1 inb1).view.write (Elt F) ((outP o0 inb0).view.write (Elt F) g ((accP ![0, 0, 0] jnb0).view.read (Elt F) (acc z sd tab p (row0 L) 512)) Finset.univ)
        ((accP ![1, 0, 0] jnb1).view.read (Elt F) (acc z sd tab p (row0 L) 512)) Finset.univ : S8x512x512.Idx → F .f32) y = das z sd tab y := by
  intro y hy hlt
  have hm := mem_mine.mp hy
  have hy2 : (y 2).val < 512 := (y 2).isLt
  have hr : ∀ (u : ℕ) (_ : u < 2) (jnb : ∀ t, (![u, 0, 0] : Fin 3 → ℕ) t + S1x16x512.size t ≤ S2x16x512.size t), (y 0).val = 2 * p + u →
      ((accP ![u, 0, 0] jnb).view.read (Elt F) (acc z sd tab p (row0 L) 512) : S16x512.Idx → F .f32) (at2 ((y 1).val - row0 L) (y 2)) = das z sd tab y := by
    intro u hu jnb he
    rw [accP_read _ rfl jnb, at2_0 (by omega), at2_1 hy2]
    unfold acc das
    rw [at3_0 hu, at3_1 (by omega), at3_2 hy2, he]
    congr 1
    omega
  refine (write_plane (A := 8) (B := 512) (C := 512) (B' := 16) (Val := Elt F) outV.view _ h1 inb1 _ _ y).trans ?_
  by_cases e1 : (y 0).val = 2 * p + 1
  · rw [if_pos ⟨e1, hm.1, hm.2⟩, hr 1 (by omega) jnb1 e1]
  · rw [if_neg fun h => e1 h.1]
    refine (write_plane (A := 8) (B := 512) (C := 512) (B' := 16) (Val := Elt F) outV.view g h0 inb0 _ _ y).trans ?_
    by_cases e0 : (y 0).val = 2 * p + 0
    · rw [if_pos ⟨e0, hm.1, hm.2⟩, hr 0 (by omega) jnb0 e0]
    · rw [if_neg fun h => e0 h.1]
      exact hg y hy (by omega)

/-! ## A copy and its wait -/

section Copy

variable (d : Dev nD) (L : grid0.Coords)

/-- What the tile owes, besides the waits of `W` only waits of its own copies recorded. -/
def owed (O : CellTallies nD τ sig (HIx 1)) (W : Waits sig (HIx 1)) : sProp 𝕄 :=
  iprop(∃ W', ⌜∀ p ∈ W', p ∈ W ∨ p.2 = none⌝ ∗ owes (thr d L) O W')

/-- A copy at the head of a program, its wait next: the destination holds what the source held. -/
theorem wp_copy {α : Type} {Q : α → sProp 𝕄} {sp sp' : Space} {s : Shape} {e : EltTy} (src : Memref sig (thr d L).2.kind sp s e) (dst : Memref sig (thr d L).2.kind sp' s e)
    {sem : DmaSem sig} {hsrc : src.view.WordExact} {hdst : dst.view.WordExact} {hsem : DmaTarget.Typed (nD := nD) sp (.dma sem) (.here dst)}
    {hsw : src.view.WordExact} {hdw : dst.view.WordExact}
    {k : PUnit → Prog (TpuEff nD τ sig (Elt F) Λ₀ (thr d L).2) α} {q : PosShare TreeShare} {S : Finset (Idx (src.view.loc (thr d L)))}
    {Sd : Finset (Idx (dst.view.loc (thr d L)))} (fs : Buf (Elt F) (src.view.loc (thr d L))) (fd : Buf (Elt F) (dst.view.loc (thr d L)))
    (hpos : 0 < s.numel) (hS : src.view.set ⊆ S) (hSd : dst.view.set ⊆ Sd)
    (O : CellTallies nD τ sig (HIx 1)) (W : Waits sig (HIx 1)) :
    iprop((src.view.loc (thr d L) ↦[S]{q} fs) ∗ (dst.view.loc (thr d L) ↦[Sd]{fullShare} fd) ∗ semVal (thr d L, SemLoc.dma sem) 0
        ∗ Transfers.MayWaits (thr d L) none O ∗ owed d L O W)
      ⊢ iprop((iprop((src.view.loc (thr d L) ↦[S]{q} fs)
              ∗ (dst.view.loc (thr d L) ↦[Sd]{fullShare} (dst.view.write (Elt F) fd (src.view.read (Elt F) fs) Finset.univ))
              ∗ semVal (thr d L, SemLoc.dma sem) 0 ∗ owed d L O W)
            -∗ wp frame (wpE (defs₀ (F := F)) 𝒱₀ (thr d L) none) Set.univ (k ⟨⟩) Q)
        -∗ wp frame (wpE (defs₀ (F := F)) 𝒱₀ (thr d L) none) Set.univ
            (.op (.enqueueDma src (.here dst) (.dma sem) hsrc hdst hsem) fun _ => .op (.waitDma2 sem src dst hsw hdw) k) Q) := by
  unfold owed
  iintro ⟨Hs, Hd, Hv, #HM, ⟨%W', %hW, HO⟩⟩ Hk
  ihave Hs' := (pointsTo_split_subset (f := fs) hS).1 $$ Hs
  icases Hs' with ⟨Hs, Hrest⟩
  iapply (Transfers.wp_dmaLocal countersEmb 𝒱₀ (thr d L) none (none : HIx 1) (dst.view.amount (.dma sem)) rfl (dst.view.amount_pos _ hpos) hSd) $$ [Hs Hd Hv]
  · isplitl [Hs]; · iexact Hs
    isplitl [Hd] <;> iassumption
  iintro Hf
  iapply (Transfers.wp_waitLocalO countersEmb 𝒱₀ (thr d L) none (none : HIx 1) (N := dst.view.amount (.dma sem)) rfl) $$ [Hf HO]
  · isplitl [Hf]; · iexact Hf
    isplitl [HO]; · iexact HO
    iapply (Transfers.MayWaits.elim (SemLoc.dma sem)); iexact HM
  iintro ⟨⟨Hd, Hs⟩, Hv, HO⟩
  iapply Hk
  isplitl [Hs Hrest]
  · iapply (pointsTo_split_subset (f := fs) hS).2
    isplitl [Hs] <;> iassumption
  isplitl [Hd]; · iexact Hd
  isplitl [Hv]; · iexact Hv
  iexists _
  isplitr
  rotate_left
  · iexact HO
  · ipureintro
    intro p hp
    rcases Finset.mem_insert.mp hp with rfl | h
    · exact .inr rfl
    · exact hW p h

end Copy

end Cert.Proof.KernelIdeal
-- ==== Proof.KernelIdealTile.lean ====
/-
  A tile's task: for each of four pairs of planes clear the accumulator, add the 512 sensors' samples eight at a time, and
  write both planes' rows out. At its end every element the tile computes holds the result.
-/
module

public import proofs.«01_k».proof.Proof.KernelIdealCopy

@[expose] public section

noncomputable section

namespace Cert.Proof.KernelIdeal

open Cert.KernelIdeal Cert.KernelIdeal.Gen
open Idealize.ShloMosaic Idealize.ShloMosaic.ValueIdx Cert.Proof.Sums Cert.Proof.Views
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The value sums start from. -/
def zero : F .f32 := Scalar.ofBits .f32 0x00000000#32

/-- The accumulator after `k` of the 512 groups of sixteen pixels are cleared. -/
def cleared (fa : S2x16x512.Idx → F .f32) (k : ℕ) : S2x16x512.Idx → F .f32 :=
  fun y => if (y 1).val * 32 + (y 2).val / 16 < k then zero else fa y

theorem cleared_zero (fa : S2x16x512.Idx → F .f32) : cleared fa 0 = fa := funext fun _ => if_neg (Nat.not_lt_zero _)

theorem cleared_all (fa : S2x16x512.Idx → F .f32) (sd : S8x512x2048.Idx → F .f32) (tab : S1024x512.Idx → BitVec 32) (p i0 : ℕ) :
    cleared fa 512 = acc zero sd tab p i0 0 := by
  funext y
  have h1 : (y 1).val < 16 := (y 1).isLt
  have h2 : (y 2).val < 512 := (y 2).isLt
  exact if_pos (by omega)

/-- Clearing one group in both planes. -/
theorem cleared_step (fa : S2x16x512.Idx → F .f32) (k : Fin k0_t2_loop.trips) :
    ((bA.access (Rect.unit (s := S2x16x512) (k0_off2 k) S1x1x16.size (k0_off2_inb k))).write (Elt F)
        ((bA.access (Rect.unit (s := S2x16x512) (k0_off1 k) S1x1x16.size (k0_off1_inb k))).write (Elt F) (cleared fa k)
          (shapeCast S1x1x16 (k0_pay1 (F := F)) shapeCasts_S16_S1x1x16 : Vec F S1x1x16 .f32) Finset.univ)
        (shapeCast S1x1x16 (k0_pay1 (F := F)) shapeCasts_S16_S1x1x16 : Vec F S1x1x16 .f32) Finset.univ : S2x16x512.Idx → F .f32)
      = cleared fa (k.val + 1) := by
  funext y
  have h0 : (y 0).val < 2 := (y 0).isLt
  have h1 : (y 1).val < 16 := (y 1).isLt
  have h2 : (y 2).val < 512 := (y 2).isLt
  have hk : k.val < 512 := lt_of_lt_of_eq k.isLt trips2
  refine (store_apply _ (off2_eq k) (k0_off2_inb k) _ y).trans ?_
  rw [store_apply (cleared fa k) (off1_eq k) (k0_off1_inb k) _ y]
  show (if _ then zero else if _ then zero else cleared fa k y) = _
  unfold cleared
  split
  · rw [if_pos (by omega)]
  · split
    · rw [if_pos (by omega)]
    · by_cases hlt : (y 1).val * 32 + (y 2).val / 16 < k.val
      · rw [if_pos hlt, if_pos (by omega)]
      · rw [if_neg hlt, if_neg (by omega)]

section Tile

variable (d : Dev nD) (L : grid0.Coords)

/-! ## The loops' bodies over the tile's buffers -/

abbrev clearBody (v : BitVec 32) (k1 : Fin k0_t1_loop.trips) :=
  k0_t2_body (F := F) L sdV (Memref.isWhole_whole _) tabV (Memref.isWhole_whole _) outV (Memref.isWhole_whole _)
    bS (Memref.isWhole_whole _) bT (Memref.isWhole_whole _) bA (Memref.isWhole_whole _)
    cc0_scoped0 cc0_scoped1 cc0_scoped2 cc0_scoped3 cc0_scoped4 v (k0_pay1 (F := F)) k0_pay2 k0_pay3 k0_pay4 k0_pay5 k0_pay6 k0_pay7 k0_pay8 k0_pay9 0#32 1#32 k1
abbrev chunkBody (v w : BitVec 32) (k1 : Fin k0_t1_loop.trips) :=
  k0_t3_body (F := F) L sdV (Memref.isWhole_whole _) tabV (Memref.isWhole_whole _) outV (Memref.isWhole_whole _)
    bS (Memref.isWhole_whole _) bT (Memref.isWhole_whole _) bA (Memref.isWhole_whole _)
    cc0_scoped0 cc0_scoped1 cc0_scoped2 cc0_scoped3 cc0_scoped4 v (k0_pay1 (F := F)) k0_pay2 k0_pay3 k0_pay4 k0_pay5 k0_pay6 k0_pay7 k0_pay8 k0_pay9 0#32 1#32 k1 w
abbrev pixelBody (v : BitVec 32) (k1 : Fin k0_t1_loop.trips) :=
  k0_t4_body (F := F) L sdV (Memref.isWhole_whole _) tabV (Memref.isWhole_whole _) outV (Memref.isWhole_whole _)
    bS (Memref.isWhole_whole _) bT (Memref.isWhole_whole _) bA (Memref.isWhole_whole _)
    cc0_scoped0 cc0_scoped1 cc0_scoped2 cc0_scoped3 cc0_scoped4 v (k0_pay1 (F := F)) k0_pay2 k0_pay3 k0_pay4 k0_pay5 k0_pay6 k0_pay7 k0_pay8 k0_pay9 0#32 1#32 k1
abbrev groupBody (v : BitVec 32) :=
  k0_t1_body (F := F) L sdV (Memref.isWhole_whole _) tabV (Memref.isWhole_whole _) outV (Memref.isWhole_whole _)
    bS (Memref.isWhole_whole _) bT (Memref.isWhole_whole _) bA (Memref.isWhole_whole _)
    cc0_scoped0 cc0_scoped1 cc0_scoped2 cc0_scoped3 cc0_scoped4 v

/-- One trip of the clearing loop. -/
theorem clear_trip (fa : S2x16x512.Idx → F .f32) (v : BitVec 32) (k1 : Fin k0_t1_loop.trips) (k : Fin k0_t2_loop.trips) (u : Unit) :
    bAPts d L (cleared fa k)
      ⊢ wp frame (wpE (defs₀ (F := F)) 𝒱₀ (thr d L) none) Set.univ (clearBody L v k1 k u) fun _ => bAPts d L (cleared fa (k.val + 1)) := by
  unfold clearBody k0_t2_body
  simp only [Prog.lift, Prog.bind_op, Prog.bind_ret, Prog.pure_eq_ret]
  iintro HA
  iapply (wp_load 𝒱₀ (thr d L) none Set.univ (m := bA) (S := Finset.univ) (Finset.subset_univ _)) $$ HA; iintro HA
  iapply (wp_store 𝒱₀ (thr d L) none Set.univ (m := bA) (r := Rect.unit (s := S2x16x512) (k0_off1 k) S1x1x16.size (k0_off1_inb k)) (Mk := Finset.univ) (S := Finset.univ) (Finset.subset_univ _)) $$ HA; iintro HA
  iapply (wp_load 𝒱₀ (thr d L) none Set.univ (m := bA) (S := Finset.univ) (Finset.subset_univ _)) $$ HA; iintro HA
  iapply (wp_store 𝒱₀ (thr d L) none Set.univ (m := bA) (r := Rect.unit (s := S2x16x512) (k0_off2 k) S1x1x16.size (k0_off2_inb k)) (Mk := Finset.univ) (S := Finset.univ) (Finset.subset_univ _)) $$ HA; iintro HA
  rw [wp_ret]; imodintro
  rw [← cleared_step fa k]
  iexact HA

/-- What a chunk's copies use and give back: read shares of the samples and the delays, three semaphores, and the evidence
    that the tile may wait for them. -/
def tools (q : PosShare TreeShare) (sd : S8x512x2048.Idx → F .f32) (tab : S1024x512.Idx → BitVec 32)
    (O : CellTallies nD τ sig (HIx 1)) (W : Waits sig (HIx 1)) : sProp 𝕄 :=
  iprop((sdLoc d ↦{q} (sd : Buf (Elt F) (sdLoc d))) ∗ (tabLoc d ↦{q} (tab : Buf (Elt F) (tabLoc d)))
    ∗ semVal (thr d L, SemLoc.dma cc0_scoped0.sem) 0 ∗ semVal (thr d L, SemLoc.dma cc0_scoped1.sem) 0 ∗ semVal (thr d L, SemLoc.dma cc0_scoped2.sem) 0
    ∗ Transfers.MayWaits (thr d L) none O ∗ owed d L O W)

/-- The state between chunks: the accumulator at `fa`, the sample block and the delay rows at anything. -/
def between (q : PosShare TreeShare) (sd : S8x512x2048.Idx → F .f32) (tab : S1024x512.Idx → BitVec 32)
    (O : CellTallies nD τ sig (HIx 1)) (W : Waits sig (HIx 1)) (fa : S2x16x512.Idx → F .f32) : sProp 𝕄 :=
  iprop(bAPts d L fa ∗ (∃ f5, bSPts d L f5) ∗ (∃ f6, bTPts d L f6) ∗ tools d L q sd tab O W)

/-- One trip of the chunk loop: eight sensors more. -/
theorem chunk_trip (q : PosShare TreeShare) (sd : S8x512x2048.Idx → F .f32) (tab : S1024x512.Idx → BitVec 32) (hT : ∀ y, (tab y).toNat < 2048)
    (O : CellTallies nD τ sig (HIx 1)) (W : Waits sig (HIx 1)) (v w : BitVec 32) (k1 : Fin k0_t1_loop.trips) (k : Fin k0_t3_loop.trips) (u : Unit) :
    between d L q sd tab O W (acc zero sd tab k1 (row0 L) (8 * k.val))
      ⊢ wp frame (wpE (defs₀ (F := F)) 𝒱₀ (thr d L) none) Set.univ (chunkBody L v w k1 k u)
          fun _ => between d L q sd tab O W (acc zero sd tab k1 (row0 L) (8 * (k.val + 1))) := by
  unfold chunkBody k0_t3_body
  rw [k0_part5_eq_skeleton]; unfold k0_part5_skel between tools
  simp only [Prog.lift, Prog.bind_op, Prog.bind_ret, Prog.pure_eq_ret]
  iintro ⟨HA, ⟨%f5, HS⟩, ⟨%f6, HT⟩, Hsd, Htab, Hs0, Hs1, Hs2, #HM, HO⟩
  iapply (wp_copy d L (sdP (k0_off3 k1 k 0#32) (k0_off3_inb k1 k 0)) (blkP ![0, 0, 0] inb_S2x8x2048_S1x8x2048_0_0_0) (q := q) (S := Finset.univ) (Sd := Finset.univ)
    sd f5 (by decide) (Finset.subset_univ _) (Finset.subset_univ _) O W) $$ [Hsd HS Hs0 HO]
  · isplitl [Hsd]; · iexact Hsd
    isplitl [HS]; · iexact HS
    isplitl [Hs0]; · iexact Hs0
    isplitr; · iexact HM
    iexact HO
  iintro ⟨Hsd, HS, Hs0, HO⟩
  iapply (wp_copy d L (sdP (k0_off3 k1 k 1#32) (k0_off3_inb k1 k 1)) (blkP ![1, 0, 0] inb_S2x8x2048_S1x8x2048_1_0_0) (q := q) (S := Finset.univ) (Sd := Finset.univ)
    sd _ (by decide) (Finset.subset_univ _) (Finset.subset_univ _) O W) $$ [Hsd HS Hs1 HO]
  · isplitl [Hsd]; · iexact Hsd
    isplitl [HS]; · iexact HS
    isplitl [Hs1]; · iexact Hs1
    isplitr; · iexact HM
    iexact HO
  iintro ⟨Hsd, HS, Hs1, HO⟩
  iapply (wp_copy d L (tabR (k0_off4 L k) (k0_off4_inb L k)) bT (q := q) (S := Finset.univ) (Sd := Finset.univ)
    tab f6 (by decide) (Finset.subset_univ _) (Finset.subset_univ _) O W) $$ [Htab HT Hs2 HO]
  · isplitl [Htab]; · iexact Htab
    isplitl [HT]; · iexact HT
    isplitl [Hs2]; · iexact Hs2
    isplitr; · iexact HM
    iexact HO
  iintro ⟨Htab, HT, Hs2, HO⟩
  have e5 := blk_landed sd f5 (p := k1) (c0 := 8 * k.val) (k0_off3_eq k1 k 0) (k0_off3_eq k1 k 1) (k0_off3_inb k1 k 0) (k0_off3_inb k1 k 1)
    inb_S2x8x2048_S1x8x2048_0_0_0 inb_S2x8x2048_S1x8x2048_1_0_0
  have e6 := rows_landed (F := F) tab f6 (r := 8 * k.val + 496 - row0 L) (k0_off4_eq L k) (k0_off4_inb L k)
  ihave HS : bSPts d L (blk sd k1 (8 * k.val)) $$ [HS]
  · rw [← e5]; iexact HS
  ihave HT : bTPts d L (rows tab (8 * k.val + 496 - row0 L)) $$ [HT]
  · rw [← e6]; iexact HT
  iapply (Scf.wp_for_bind frame (wpE (defs₀ (F := F)) 𝒱₀ (thr d L) none) Set.univ _ _ _ k0_t4_ok ⟨⟩ _
    (fun n _ => iprop(bAPts d L (pix (blk sd k1 (8 * k.val)) (rows tab (8 * k.val + 496 - row0 L)) (acc zero sd tab k1 (row0 L) (8 * k.val)) n)
      ∗ bSPts d L (blk sd k1 (8 * k.val)) ∗ bTPts d L (rows tab (8 * k.val + 496 - row0 L))))
    (fun n _ => by
      unfold k0_t4_body
      rw [wp_bind]
      refine (pixel_trip d L _ _ _ (fun y => hT _) 0#32 1#32 n).trans ?_
      refine wp_mono _ _ _ ?_
      intro _
      rw [Prog.pure_eq_ret, wp_ret]
      iintro H
      imodintro
      iexact H)) $$ [HA HS HT]
  · isplitl [HA]
    · rw [pix_zero]; iexact HA
    isplitl [HS] <;> iassumption
  iintro %_ ⟨HA, HS, HT⟩
  rw [wp_ret]; imodintro
  isplitl [HA]
  · rw [← pix_acc zero sd tab (row0_le L)]
    rw [← trips4]
    iexact HA
  isplitl [HS]; · iexists _; iexact HS
  isplitl [HT]; · iexists _; iexact HT
  isplitl [Hsd]; · iexact Hsd
  isplitl [Htab]; · iexact Htab
  isplitl [Hs0]; · iexact Hs0
  isplitl [Hs1]; · iexact Hs1
  isplitl [Hs2]; · iexact Hs2
  isplitr; · iexact HM
  iexact HO

/-- Of the tile's elements those of planes below `n` hold the result. -/
def written (sd : S8x512x2048.Idx → F .f32) (tab : S1024x512.Idx → BitVec 32) (n : ℕ) : sProp 𝕄 :=
  iprop(∃ g : S8x512x512.Idx → F .f32, ⌜∀ y ∈ mine L, (y 0).val < n → g y = das zero sd tab y⌝
    ∗ outLoc d ↦[mine L]{fullShare} (g : Buf (Elt F) (outLoc d)))

/-- The state between groups of two planes. -/
def groups (q : PosShare TreeShare) (sd : S8x512x2048.Idx → F .f32) (tab : S1024x512.Idx → BitVec 32)
    (O : CellTallies nD τ sig (HIx 1)) (W : Waits sig (HIx 1)) (n : ℕ) : sProp 𝕄 :=
  iprop((∃ fa, between d L q sd tab O W fa) ∗ semVal (thr d L, SemLoc.dma cc0_scoped3.sem) 0 ∗ semVal (thr d L, SemLoc.dma cc0_scoped4.sem) 0
    ∗ written d L sd tab (2 * n))

/-- One trip of the outer loop: two planes of the tile's rows. -/
theorem group_trip (q : PosShare TreeShare) (sd : S8x512x2048.Idx → F .f32) (tab : S1024x512.Idx → BitVec 32) (hT : ∀ y, (tab y).toNat < 2048)
    (O : CellTallies nD τ sig (HIx 1)) (W : Waits sig (HIx 1)) (v : BitVec 32) (k : Fin k0_t1_loop.trips) (u : Unit) :
    groups d L q sd tab O W k.val
      ⊢ wp frame (wpE (defs₀ (F := F)) 𝒱₀ (thr d L) none) Set.univ (groupBody L v k u) fun _ => groups d L q sd tab O W (k.val + 1) := by
  unfold groupBody k0_t1_body
  rw [wp_bind, k0_part6_eq_skeleton]; unfold k0_part6_skel groups between written
  simp only [Prog.lift, Prog.bind_op, Prog.bind_ret, Prog.pure_eq_ret]
  iintro ⟨⟨%fa, HA, HS, HT, Htools⟩, Hs3, Hs4, ⟨%g, %hg, Hout⟩⟩
  iapply (Scf.wp_for_bind frame (wpE (defs₀ (F := F)) 𝒱₀ (thr d L) none) Set.univ _ _ _ k0_t2_ok ⟨⟩ _
    (fun n _ => bAPts d L (cleared fa n)) (fun n u => clear_trip d L fa v k n u)) $$ [HA]
  · rw [cleared_zero]; iexact HA
  iintro %_ HA
  iapply (Scf.wp_for_bind frame (wpE (defs₀ (F := F)) 𝒱₀ (thr d L) none) Set.univ _ _ _ k0_t3_ok ⟨⟩ _
    (fun n _ => between d L q sd tab O W (acc zero sd tab k (row0 L) (8 * n))) (fun n u => chunk_trip d L q sd tab hT O W v _ k n u)) $$ [HA HS HT Htools]
  · unfold between
    isplitl [HA]
    · rw [Nat.mul_zero, ← cleared_all fa sd tab k (row0 L), ← trips2]; iexact HA
    isplitl [HS]; · iexact HS
    isplitl [HT] <;> iassumption
  unfold between tools
  iintro %_ ⟨HA, HS, HT, Hsd, Htab, Hs0, Hs1, Hs2, #HM, HO⟩
  ihave HA : bAPts d L (acc zero sd tab k (row0 L) 512) $$ [HA]
  · have e : acc zero sd tab k (row0 L) 512 = acc zero sd tab k (row0 L) (8 * k0_t3_loop.trips) := by rw [trips3]
    rw [e]; iexact HA
  iapply (wp_copy d L (accP ![0, 0, 0] inb_S2x16x512_S1x16x512_0_0_0) (outP (k0_off17 L k 0#32) (k0_off17_inb L k 0)) (q := fullShare) (S := Finset.univ) (Sd := mine L)
    (acc zero sd tab k (row0 L) 512) g (by decide) (Finset.subset_univ _) (outP_mine L (k0_off17_eq L k 0) _) O W) $$ [HA Hout Hs3 HO]
  · isplitl [HA]; · iexact HA
    isplitl [Hout]; · iexact Hout
    isplitl [Hs3]; · iexact Hs3
    isplitr; · iexact HM
    iexact HO
  iintro ⟨HA, Hout, Hs3, HO⟩
  rw [wp_ret]; imodintro
  iapply (wp_copy d L (accP ![1, 0, 0] inb_S2x16x512_S1x16x512_1_0_0) (outP (k0_off17 L k 1#32) (k0_off17_inb L k 1)) (q := fullShare) (S := Finset.univ) (Sd := mine L)
    (acc zero sd tab k (row0 L) 512) _ (by decide) (Finset.subset_univ _) (outP_mine L (k0_off17_eq L k 1) _) O W) $$ [HA Hout Hs4 HO]
  · isplitl [HA]; · iexact HA
    isplitl [Hout]; · iexact Hout
    isplitl [Hs4]; · iexact Hs4
    isplitr; · iexact HM
    iexact HO
  iintro ⟨HA, Hout, Hs4, HO⟩
  rw [wp_ret]; imodintro
  isplitl [HA HS HT Hsd Htab Hs0 Hs1 Hs2 HO]
  · iexists _
    isplitl [HA]; · iexact HA
    isplitl [HS]; · iexact HS
    isplitl [HT]; · iexact HT
    isplitl [Hsd]; · iexact Hsd
    isplitl [Htab]; · iexact Htab
    isplitl [Hs0]; · iexact Hs0
    isplitl [Hs1]; · iexact Hs1
    isplitl [Hs2]; · iexact Hs2
    isplitr; · iexact HM
    iexact HO
  isplitl [Hs3]; · iexact Hs3
  isplitl [Hs4]; · iexact Hs4
  iexists _
  isplitr
  rotate_left
  · iexact Hout
  · ipureintro
    exact out_landed zero sd tab L g (k0_off17_eq L k 0) (k0_off17_eq L k 1) (k0_off17_inb L k 0) (k0_off17_inb L k 1)
      inb_S2x16x512_S1x16x512_0_0_0 inb_S2x16x512_S1x16x512_1_0_0 hg

/-! ## The tile's own semaphores and buffers -/

abbrev cell (s : DmaSems sig S_) : GSem nD τ sig := (thr d L, SemLoc.dma s.sem)

omit [FloatOps F] in
theorem cell_own {s : DmaSems sig S_} (h : (SemLoc.dma s.sem : SemLoc sig).isScoped .scVector = true) : cell d L s ∈ SparseCore.Cfg.ownCells (thr d L) :=
  SparseCore.Cfg.mem_ownCells.mpr ⟨rfl, h⟩

omit [FloatOps F] in
theorem cell_ne {s s' : DmaSems sig S_} (h : (SemLoc.dma s.sem : SemLoc sig) ≠ SemLoc.dma s'.sem) : cell d L s ≠ cell d L s' :=
  fun e => h (congrArg Prod.snd e)

/-- The five semaphores of the copies are among the tile's own. -/
theorem ownSems0_V :
    (SparseCore.Cfg.ownSems0 (thr d L) : sProp 𝕄)
      = iprop(semVal (cell d L cc0_scoped0) 0 ∗ semVal (cell d L cc0_scoped1) 0 ∗ semVal (cell d L cc0_scoped2) 0 ∗ semVal (cell d L cc0_scoped3) 0
          ∗ semVal (cell d L cc0_scoped4) 0
          ∗ bigSep ((((((SparseCore.Cfg.ownCells (thr d L)).erase (cell d L cc0_scoped0)).erase (cell d L cc0_scoped1)).erase (cell d L cc0_scoped2)).erase
              (cell d L cc0_scoped3)).erase (cell d L cc0_scoped4)) fun g => semVal g 0) := by
  unfold SparseCore.Cfg.ownSems0
  have m0 := cell_own d L (s := cc0_scoped0) (by decide)
  have m1 := Finset.mem_erase.mpr ⟨cell_ne d L (s := cc0_scoped1) (s' := cc0_scoped0) (by decide), cell_own d L (by decide)⟩
  have m2 := Finset.mem_erase.mpr ⟨cell_ne d L (s := cc0_scoped2) (s' := cc0_scoped1) (by decide),
    Finset.mem_erase.mpr ⟨cell_ne d L (s' := cc0_scoped0) (by decide), cell_own d L (by decide)⟩⟩
  have m3 := Finset.mem_erase.mpr ⟨cell_ne d L (s := cc0_scoped3) (s' := cc0_scoped2) (by decide), Finset.mem_erase.mpr ⟨cell_ne d L (s' := cc0_scoped1) (by decide),
    Finset.mem_erase.mpr ⟨cell_ne d L (s' := cc0_scoped0) (by decide), cell_own d L (by decide)⟩⟩⟩
  have m4 := Finset.mem_erase.mpr ⟨cell_ne d L (s := cc0_scoped4) (s' := cc0_scoped3) (by decide), Finset.mem_erase.mpr ⟨cell_ne d L (s' := cc0_scoped2) (by decide),
    Finset.mem_erase.mpr ⟨cell_ne d L (s' := cc0_scoped1) (by decide), Finset.mem_erase.mpr ⟨cell_ne d L (s' := cc0_scoped0) (by decide), cell_own d L (by decide)⟩⟩⟩⟩
  rw [SparseCore.bigSep_erase' m0, SparseCore.bigSep_erase' m1, SparseCore.bigSep_erase' m2, SparseCore.bigSep_erase' m3, SparseCore.bigSep_erase' m4]

abbrev pref : Proc τ := Proc.scVector (cV L) (jV L)

omit [FloatOps F] in
theorem buf_own {b : Ref sig .scVector} (h : ((pref L).devRef b).owner = .proc (pref L)) : (pref L).devRef b ∈ SparseCore.Cfg.ownRefs (τ := τ) (sig := sig) (pref L) :=
  SparseCore.Cfg.mem_ownRefs_of_owner h

omit [FloatOps F] in
theorem buf_ne {b b' : Ref sig .scVector} (h : b ≠ b') : (pref L).devRef b ≠ (pref L).devRef b' := fun e => h (Proc.devRef_injective _ e)

/-- The three scratch buffers are among the tile's own, at some contents. -/
theorem ownBufs_V :
    (SparseCore.Cfg.ownBufs (thr d L) : sProp 𝕄)
      = iprop((∃ f, bSPts d L f) ∗ (∃ f, bTPts d L f) ∗ (∃ f, bAPts d L f)
          ∗ bigSep ((((SparseCore.Cfg.ownRefs (τ := τ) (sig := sig) (pref L)).erase ((pref L).devRef cc0_scratch0)).erase ((pref L).devRef cc0_scratch1)).erase
              ((pref L).devRef cc0_scratch2)) fun b => iprop(∃ f, ((d, b) : Loc nD τ sig) ↦{fullShare} f)) := by
  unfold SparseCore.Cfg.ownBufs
  have m0 := buf_own L (b := cc0_scratch0) rfl
  have m1 := Finset.mem_erase.mpr ⟨buf_ne L (b := cc0_scratch1) (b' := cc0_scratch0) (by decide), buf_own L rfl⟩
  have m2 := Finset.mem_erase.mpr ⟨buf_ne L (b := cc0_scratch2) (b' := cc0_scratch1) (by decide),
    Finset.mem_erase.mpr ⟨buf_ne L (b' := cc0_scratch0) (by decide), buf_own L rfl⟩⟩
  refine (SparseCore.bigSep_erase' m0).trans ?_
  rw [SparseCore.bigSep_erase' m1, SparseCore.bigSep_erase' m2]
  rfl

/-! ## The task -/

/-- A read share of the samples and of the delays. -/
def reads (q : PosShare TreeShare) (sd : S8x512x2048.Idx → F .f32) (tab : S1024x512.Idx → BitVec 32) : sProp 𝕄 :=
  iprop((sdLoc d ↦{q} (sd : Buf (Elt F) (sdLoc d))) ∗ (tabLoc d ↦{q} (tab : Buf (Elt F) (tabLoc d))))

/-- The task of the tile at `L`: from its elements of the result at anything to its elements of the result. -/
theorem tile_body (q : PosShare TreeShare) (sd : S8x512x2048.Idx → F .f32) (tab : S1024x512.Idx → BitVec 32) (hT : ∀ y, (tab y).toNat < 2048)
    (O : CellTallies nD τ sig (HIx 1)) (W : Waits sig (HIx 1)) (hO : ∀ g, O g none = 0) :
    iprop(levAts (K (F := F)).L (K (F := F)).lev
        ∗ (reads d q sd tab ∗ ∃ g, outLoc d ↦[mine L]{fullShare} (g : Buf (Elt F) (outLoc d)))
        ∗ scopedBufs (thr d L) ∗ scopedSems0 (thr d L) ∗ owes (thr d L) O W)
      ⊢ wp frame (wpE (defs₀ (F := F)) 𝒱₀ (thr d L) none) Set.univ
          (cc0__das_body (F := F) L sdV (Memref.isWhole_whole _) tabV (Memref.isWhole_whole _) outV (Memref.isWhole_whole _)
            bS (Memref.isWhole_whole _) bT (Memref.isWhole_whole _) bA (Memref.isWhole_whole _)
            cc0_scoped0 cc0_scoped1 cc0_scoped2 cc0_scoped3 cc0_scoped4)
          fun _ => iprop((reads d q sd tab ∗ outLoc d ↦[mine L]{fullShare} (das zero sd tab : Buf (Elt F) (outLoc d)))
            ∗ scopedBufs (thr d L) ∗ scopedSems0 (thr d L)
            ∗ ∃ W', ⌜∀ p ∈ W', p ∈ W ∨ p.2 = none⌝ ∗ owes (thr d L) O W') := by
  rw [cc0__das_body_eq_skeleton]; unfold cc0__das_body_skel reads
  rw [(K (F := F)).scopedBufs_V facts d (cV L) (jV L), SparseCore.Cfg.scopedSems0_V (Val := Elt F) d (cV L) (jV L), ownSems0_V, ownBufs_V]
  iintro ⟨#Hlv, ⟨⟨Hsd, Htab⟩, ⟨%g, Hout⟩⟩, ⟨HS, HT, ⟨%fa, HA⟩, Hbufs⟩, ⟨Hs0, Hs1, Hs2, Hs3, Hs4, Hsems⟩, HO⟩
  ihave HM := ((K (F := F)).mayWaits_none (thr := thr d L) hO) $$ Hlv
  icases HM with #HM
  iapply (Scf.wp_for_bind frame (wpE (defs₀ (F := F)) 𝒱₀ (thr d L) none) Set.univ _ _ _ k0_t1_ok ⟨⟩ _
    (fun n _ => groups d L q sd tab O W n) (fun n u => group_trip d L q sd tab hT O W _ n u)) $$ [HA HS HT Hsd Htab Hs0 Hs1 Hs2 Hs3 Hs4 Hout HO]
  · unfold groups between tools written owed
    isplitl [HA HS HT Hsd Htab Hs0 Hs1 Hs2 HO]
    · iexists _
      isplitl [HA]; · iexact HA
      isplitl [HS]; · iexact HS
      isplitl [HT]; · iexact HT
      isplitl [Hsd]; · iexact Hsd
      isplitl [Htab]; · iexact Htab
      isplitl [Hs0]; · iexact Hs0
      isplitl [Hs1]; · iexact Hs1
      isplitl [Hs2]; · iexact Hs2
      isplitr; · iexact HM
      iexists W
      isplitr; · ipureintro; exact fun _ h => .inl h
      iexact HO
    isplitl [Hs3]; · iexact Hs3
    isplitl [Hs4]; · iexact Hs4
    iexists g
    isplitr; · ipureintro; intro y _ h; exact absurd h (by omega)
    iexact Hout
  unfold groups between tools written owed
  iintro %_ ⟨⟨%fa', HA, HS, HT, Hsd, Htab, Hs0, Hs1, Hs2, -, HO⟩, Hs3, Hs4, ⟨%g', %hg, Hout⟩⟩
  rw [Prog.pure_eq_ret, wp_ret]; imodintro
  isplitl [Hsd Htab Hout]
  · isplitl [Hsd Htab]
    · isplitl [Hsd] <;> iassumption
    · have hall : ∀ y ∈ mine L, g' y = das zero sd tab y := fun y hy => hg y hy (by
        have h : (y 0).val < 8 := (y 0).isLt
        have e : k0_t1_loop.trips = 4 := trips1
        show (y 0).val < 2 * k0_t1_loop.trips
        omega)
      iapply (Entails.of_eq (pointsTo_congr (ℓ := outLoc d) (I := mine L) (q := fullShare) (f := (g' : Buf (Elt F) (outLoc d))) hall)); iexact Hout
  isplitl [HA HS HT Hbufs]
  · isplitl [HS]; · iexact HS
    isplitl [HT]; · iexact HT
    isplitl [HA]; · iexists _; iexact HA
    iexact Hbufs
  isplitl [Hs0 Hs1 Hs2 Hs3 Hs4 Hsems]
  · isplitl [Hs0]; · iexact Hs0
    isplitl [Hs1]; · iexact Hs1
    isplitl [Hs2]; · iexact Hs2
    isplitl [Hs3]; · iexact Hs3
    isplitl [Hs4]; · iexact Hs4
    iexact Hsems
  iexact HO

end Tile

end Cert.Proof.KernelIdeal
-- ==== Proof.KernelIdealHost.lean ====
/-
  @main's host operations on the TensorCore: the ones before the SparseCore call, which reshape the samples and compute the
  delays, and the one after it. What they leave in the call's two operands is stated as functions of the arguments.
-/
module

public import proofs.«01_k».proof.Proof.KernelIdealBase
public import proofs.«01_k».proof.Proof.Delay
public import Idealize.ShloMosaic.Lib.Pipeline.Regions
public import Idealize.ShloMosaic.Lib.StableHlo.RunRead
public import Idealize.ShloMosaic.Lib.StableHlo.ReadAt

@[expose] public section

noncomputable section

namespace Cert.Proof.KernelIdeal

open Cert.KernelIdeal Cert.KernelIdeal.Gen
open Idealize.ShloMosaic Idealize.ShloMosaic.ValueIdx Cert.Proof.Sums Cert.Proof.Views Cert.Proof.Delay
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after seq launchContents)

variable {F : FTy → Type} [FloatOps F]

local notation "𝕄" => MT nD τ sig (HIx 1) (Elt F) ℕ UU ℕ

/-- The operations before the call, in order. -/
abbrev before : List (HloOp τ sig (Elt F)) :=
  [ StableHlo.reshape main_arg0 main_v0 (rfl : (.f32 : EltTy) = .f32) shapeCasts_S4x2x512x2048_S8x512x2048,
    StableHlo.unary main_arg1 main_v1 ((extractStridedSlice S1x2 ![0, 0] · slices_S512x2_S1x2_0_0) : (⟨S512x2, .i32⟩ : BufTy).Contents (Elt F) → (⟨S1x2, .i32⟩ : BufTy).Contents (Elt F)),
    StableHlo.reshape main_v1 main_v2 (rfl : (.i32 : EltTy) = .i32) shapeCasts_S1x2_S2,
    StableHlo.nullary main_v3 (sitofp .f32 (iotaInDim S1024 32 0)),
    StableHlo.unary main_v3 main_v4 (broadcastInDim S1024x1 ![0] bcast_S1024_S1024x1_0 : (⟨S1024, .f32⟩ : BufTy).Contents (Elt F) → (⟨S1024x1, .f32⟩ : BufTy).Contents (Elt F)),
    StableHlo.nullary main_v5 (sitofp .f32 (iotaInDim S512 32 0)),
    StableHlo.nullary main_cst (constant S_ .f32 0x3F800000#32),
    StableHlo.unary main_cst main_v6 (broadcastInDim S512 ![] bcast_S_S512 : (⟨S_, .f32⟩ : BufTy).Contents (Elt F) → (⟨S512, .f32⟩ : BufTy).Contents (Elt F)),
    StableHlo.binary main_v6 main_v5 main_v7 (addf : (⟨S512, .f32⟩ : BufTy).Contents (Elt F) → (⟨S512, .f32⟩ : BufTy).Contents (Elt F) → (⟨S512, .f32⟩ : BufTy).Contents (Elt F)),
    StableHlo.unary main_v7 main_v8 (broadcastInDim S1x512 ![1] bcast_S512_S1x512_1 : (⟨S512, .f32⟩ : BufTy).Contents (Elt F) → (⟨S1x512, .f32⟩ : BufTy).Contents (Elt F)),
    StableHlo.unary main_v2 main_v9 ((extractStridedSlice S1 ![0] · slices_S2_S1_0) : (⟨S2, .i32⟩ : BufTy).Contents (Elt F) → (⟨S1, .i32⟩ : BufTy).Contents (Elt F)),
    StableHlo.reshape main_v9 main_v10 (rfl : (.i32 : EltTy) = .i32) shapeCasts_S1_S_,
    StableHlo.unary main_v10 main_v11 (sitofp .f32 : (⟨S_, .i32⟩ : BufTy).Contents (Elt F) → (⟨S_, .f32⟩ : BufTy).Contents (Elt F)),
    StableHlo.unary main_v2 main_v12 ((extractStridedSlice S1 ![1] · slices_S2_S1_1) : (⟨S2, .i32⟩ : BufTy).Contents (Elt F) → (⟨S1, .i32⟩ : BufTy).Contents (Elt F)),
    StableHlo.reshape main_v12 main_v13 (rfl : (.i32 : EltTy) = .i32) shapeCasts_S1_S_,
    StableHlo.unary main_v13 main_v14 (sitofp .f32 : (⟨S_, .i32⟩ : BufTy).Contents (Elt F) → (⟨S_, .f32⟩ : BufTy).Contents (Elt F)),
    StableHlo.nullary main_cst_0 (constant S_ .f32 0x43FF8000#32),
    StableHlo.unary main_cst_0 main_v15 (broadcastInDim S1024x1 ![] bcast_S_S1024x1 : (⟨S_, .f32⟩ : BufTy).Contents (Elt F) → (⟨S1024x1, .f32⟩ : BufTy).Contents (Elt F)),
    StableHlo.binary main_v4 main_v15 main_v16 (subf : (⟨S1024x1, .f32⟩ : BufTy).Contents (Elt F) → (⟨S1024x1, .f32⟩ : BufTy).Contents (Elt F) → (⟨S1024x1, .f32⟩ : BufTy).Contents (Elt F)),
    StableHlo.unary main_v11 main_v17 (broadcastInDim S1024x1 ![] bcast_S_S1024x1 : (⟨S_, .f32⟩ : BufTy).Contents (Elt F) → (⟨S1024x1, .f32⟩ : BufTy).Contents (Elt F)),
    StableHlo.binary main_v17 main_v16 main_v18 (addf : (⟨S1024x1, .f32⟩ : BufTy).Contents (Elt F) → (⟨S1024x1, .f32⟩ : BufTy).Contents (Elt F) → (⟨S1024x1, .f32⟩ : BufTy).Contents (Elt F)),
    StableHlo.unary main_v14 main_v19 (broadcastInDim S1x512 ![] bcast_S_S1x512 : (⟨S_, .f32⟩ : BufTy).Contents (Elt F) → (⟨S1x512, .f32⟩ : BufTy).Contents (Elt F)),
    StableHlo.binary main_v19 main_v8 main_v20 (subf : (⟨S1x512, .f32⟩ : BufTy).Contents (Elt F) → (⟨S1x512, .f32⟩ : BufTy).Contents (Elt F) → (⟨S1x512, .f32⟩ : BufTy).Contents (Elt F)),
    StableHlo.nullary main_cst_1 (constant S_ .f32 0x3F800000#32),
    StableHlo.unary main_cst_1 main_v21 (broadcastInDim S1x512 ![] bcast_S_S1x512 : (⟨S_, .f32⟩ : BufTy).Contents (Elt F) → (⟨S1x512, .f32⟩ : BufTy).Contents (Elt F)),
    StableHlo.binary main_v20 main_v21 main_v22 (addf : (⟨S1x512, .f32⟩ : BufTy).Contents (Elt F) → (⟨S1x512, .f32⟩ : BufTy).Contents (Elt F) → (⟨S1x512, .f32⟩ : BufTy).Contents (Elt F)),
    StableHlo.nullary main_cst_2 (constant S_ .f32 0x38D1B717#32),
    StableHlo.unary main_cst_2 main_v23 (broadcastInDim S1024x1 ![] bcast_S_S1024x1 : (⟨S_, .f32⟩ : BufTy).Contents (Elt F) → (⟨S1024x1, .f32⟩ : BufTy).Contents (Elt F)),
    StableHlo.binary main_v18 main_v23 main_v24 (mulf : (⟨S1024x1, .f32⟩ : BufTy).Contents (Elt F) → (⟨S1024x1, .f32⟩ : BufTy).Contents (Elt F) → (⟨S1024x1, .f32⟩ : BufTy).Contents (Elt F)),
    StableHlo.binary main_v24 main_v24 main_v25 (mulf : (⟨S1024x1, .f32⟩ : BufTy).Contents (Elt F) → (⟨S1024x1, .f32⟩ : BufTy).Contents (Elt F) → (⟨S1024x1, .f32⟩ : BufTy).Contents (Elt F)),
    StableHlo.nullary main_cst_3 (constant S_ .f32 0x38D1B717#32),
    StableHlo.unary main_cst_3 main_v26 (broadcastInDim S1x512 ![] bcast_S_S1x512 : (⟨S_, .f32⟩ : BufTy).Contents (Elt F) → (⟨S1x512, .f32⟩ : BufTy).Contents (Elt F)),
    StableHlo.binary main_v22 main_v26 main_v27 (mulf : (⟨S1x512, .f32⟩ : BufTy).Contents (Elt F) → (⟨S1x512, .f32⟩ : BufTy).Contents (Elt F) → (⟨S1x512, .f32⟩ : BufTy).Contents (Elt F)),
    StableHlo.binary main_v27 main_v27 main_v28 (mulf : (⟨S1x512, .f32⟩ : BufTy).Contents (Elt F) → (⟨S1x512, .f32⟩ : BufTy).Contents (Elt F) → (⟨S1x512, .f32⟩ : BufTy).Contents (Elt F)),
    StableHlo.unary main_v25 main_v29 (broadcastInDim S1024x512 ![0, 1] bcast_S1024x1_S1024x512_0_1 : (⟨S1024x1, .f32⟩ : BufTy).Contents (Elt F) → (⟨S1024x512, .f32⟩ : BufTy).Contents (Elt F)),
    StableHlo.unary main_v28 main_v30 (broadcastInDim S1024x512 ![0, 1] bcast_S1x512_S1024x512_0_1 : (⟨S1x512, .f32⟩ : BufTy).Contents (Elt F) → (⟨S1024x512, .f32⟩ : BufTy).Contents (Elt F)),
    StableHlo.binary main_v29 main_v30 main_v31 (addf : (⟨S1024x512, .f32⟩ : BufTy).Contents (Elt F) → (⟨S1024x512, .f32⟩ : BufTy).Contents (Elt F) → (⟨S1024x512, .f32⟩ : BufTy).Contents (Elt F)),
    StableHlo.unary main_v31 main_v32 (Host.sqrt : (⟨S1024x512, .f32⟩ : BufTy).Contents (Elt F) → (⟨S1024x512, .f32⟩ : BufTy).Contents (Elt F)),
    StableHlo.nullary main_cst_4 (constant S_ .f32 0x44C1C000#32),
    StableHlo.unary main_cst_4 main_v33 (broadcastInDim S1024x512 ![] bcast_S_S1024x512 : (⟨S_, .f32⟩ : BufTy).Contents (Elt F) → (⟨S1024x512, .f32⟩ : BufTy).Contents (Elt F)),
    StableHlo.binary main_v32 main_v33 main_v34 (Host.divf : (⟨S1024x512, .f32⟩ : BufTy).Contents (Elt F) → (⟨S1024x512, .f32⟩ : BufTy).Contents (Elt F) → (⟨S1024x512, .f32⟩ : BufTy).Contents (Elt F)),
    StableHlo.nullary main_cst_5 (constant S_ .f32 0x32D6BF95#32),
    StableHlo.unary main_cst_5 main_v35 (broadcastInDim S1024x512 ![] bcast_S_S1024x512 : (⟨S_, .f32⟩ : BufTy).Contents (Elt F) → (⟨S1024x512, .f32⟩ : BufTy).Contents (Elt F)),
    StableHlo.binary main_v34 main_v35 main_v36 (Host.divf : (⟨S1024x512, .f32⟩ : BufTy).Contents (Elt F) → (⟨S1024x512, .f32⟩ : BufTy).Contents (Elt F) → (⟨S1024x512, .f32⟩ : BufTy).Contents (Elt F)),
    StableHlo.unary main_v36 main_v37 (fptosi 32 : (⟨S1024x512, .f32⟩ : BufTy).Contents (Elt F) → (⟨S1024x512, .i32⟩ : BufTy).Contents (Elt F)),
    StableHlo.nullary main_c (constantI S_ 32 0#32),
    StableHlo.nullary main_c_6 (constantI S_ 32 2047#32),
    StableHlo.TRef.unary (.of main_c : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S1024x512, .i32⟩) (broadcastInDim S1024x512 ![] bcast_S_S1024x512),
    StableHlo.TRef.binary (.of main_call0_v1 : StableHlo.TRef sig ⟨S1024x512, .i32⟩) (.of main_v37 : StableHlo.TRef sig ⟨S1024x512, .i32⟩) (.of main_call0_v2 : StableHlo.TRef sig ⟨S1024x512, .i32⟩) maxsi,
    StableHlo.TRef.unary (.of main_c_6 : StableHlo.TRef sig ⟨S_, .i32⟩) (.of main_call0_v3 : StableHlo.TRef sig ⟨S_, .i32⟩) id,
    StableHlo.TRef.unary (.of main_call0_v3 : StableHlo.TRef sig ⟨S_, .i32⟩) (.of main_call0_v4 : StableHlo.TRef sig ⟨S1024x512, .i32⟩) (broadcastInDim S1024x512 ![] bcast_S_S1024x512),
    StableHlo.TRef.binary (.of main_call0_v4 : StableHlo.TRef sig ⟨S1024x512, .i32⟩) (.of main_call0_v2 : StableHlo.TRef sig ⟨S1024x512, .i32⟩) (.of main_v38 : StableHlo.TRef sig ⟨S1024x512, .i32⟩) minsi ]

/-- The operation after it: the result in the shape of @main's. -/
abbrev last : HloOp τ sig (Elt F) := StableHlo.reshape main_v39 main_v40 (rfl : (.f32 : EltTy) = .f32) shapeCasts_S8x512x512_S4x2x512x512

/-- @main is the operations before the call, the call, and the operation after it. -/
theorem main_eq (d : Dev nD) :
    main (F := F) d = (seq before >>= fun _ => (K (F := F)).run d 0 >>= fun _ => hlo rfl last fun _ => .ret ⟨⟩) := rfl

/-- Each operation touches references of the TensorCore only. -/
theorem before_sub : (before : List (HloOp τ sig (Elt F))).Forall fun op => op.bufs ⊆ StableHlo.tcRefs τ sig := by
  simp only [List.Forall, StableHlo.nullary_bufs_sub, StableHlo.unary_bufs_sub, StableHlo.binary_bufs_sub, StableHlo.reshape_bufs_sub, and_self]

/-- None allocates a buffer. -/
theorem before_fresh : (before : List (HloOp τ sig (Elt F))).Forall fun op => op.fresh = ∅ :=
  StableHlo.forall_fresh_of_map rfl

/-- What the operations leave in the call's operands: the samples by plane, and the table of delays. -/
theorem after_sd (W : Valuation τ sig (Elt F)) :
    after before W (Proc.devRef .tc main_v0) = shapeCast S8x512x2048 (W (Proc.devRef .tc main_arg0)) shapeCasts_S4x2x512x2048_S8x512x2048 := by
  after_reads_simp
  try rfl

theorem after_tab (W : Valuation τ sig (Elt F)) :
    after before W (Proc.devRef .tc main_v38) = table (F := F) (W (Proc.devRef .tc main_arg1)) := by
  refine funext fun (y : S1024x512.Idx) => ?_
  after_reads_at
  rfl

end Cert.Proof.KernelIdeal
-- ==== Proof.KernelIdealLaunch.lean ====
/-
  The launch: the call deals the samples and the delays to the 32 tiles as shares and the result's rows as disjoint sets, and
  joins what comes back. The run of the whole program from any memory.
-/
module

public import proofs.«01_k».proof.Proof.KernelIdealTile
public import proofs.«01_k».proof.Proof.KernelIdealHost

@[expose] public section

noncomputable section

namespace Cert.Proof.KernelIdeal

open Cert.KernelIdeal Cert.KernelIdeal.Gen
open Idealize.ShloMosaic Idealize.ShloMosaic.ValueIdx Cert.Proof.Sums Cert.Proof.Views Cert.Proof.Delay
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after seq launchContents held held_sub_split held_congr wp_seq wp_hlo_within)
open Idealize.ShloMosaic.Pipeline (ucRefs sub_ucRefs)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The contents of the arrays -/

/-- Device `d`'s buffers when the call starts. -/
abbrev atCall (d : Dev nD) : Valuation τ sig (Elt F) := after before (launchContents m d)

/-- The samples and the delays the call reads. -/
def sdOf (d : Dev nD) : S8x512x2048.Idx → F .f32 := atCall m d (Proc.devRef .tc main_v0)
def tabOf (d : Dev nD) : S1024x512.Idx → BitVec 32 := atCall m d (Proc.devRef .tc main_v38)

theorem tabOf_lt (d : Dev nD) (y : S1024x512.Idx) : (tabOf m d y).toNat < 2048 := by
  unfold tabOf atCall
  rw [after_tab]
  exact table_lt _ y

/-- Device `d`'s buffers when the call is over: the result holds the sums, the rest is as it was. -/
def afterCall (d : Dev nD) : Valuation τ sig (Elt F) :=
  Function.update (atCall m d) (Proc.devRef .tc main_v39) (das zero (sdOf m d) (tabOf m d))

/-! ## How the arrays are dealt -/

/-- The tile of number `i` of SparseCore `c`. -/
def tile (c : Fin (grid0.bound 0)) (i : Fin (grid0.bound 1)) : grid0.Coords :=
  fun | 0 => c | 1 => i | ⟨_ + 2, h⟩ => absurd h (Nat.not_lt.2 (Nat.le_add_left _ _))

/-- The share of an array read by all that SparseCore `c` gets, and tile `i` of it. -/
def shareC (c : Fin (grid0.bound 0)) : PosShare TreeShare := Transfers.dealOf fullShare Finset.univ c
def shareT (c : Fin (grid0.bound 0)) (i : Fin (grid0.bound 1)) : PosShare TreeShare := Transfers.dealOf (shareC c) Finset.univ i

/-- The elements of the result the tiles of SparseCore `c` compute. -/
def mineC (c : Fin (grid0.bound 0)) : Finset S8x512x512.Idx := Finset.univ.biUnion fun i => mine (tile c i)

/-- What tile `i` of SparseCore `c` holds, with the result at `g`: its shares of the arrays read, its elements. -/
def tileHas (d : Dev nD) (c : Fin (grid0.bound 0)) (i : Fin (grid0.bound 1)) (g : S8x512x512.Idx → F .f32) : sProp 𝕄 :=
  iprop(reads d (shareT c i) (sdOf m d) (tabOf m d) ∗ outLoc d ↦[mine (tile c i)]{fullShare} (g : Buf (Elt F) (outLoc d)))
/-- What SparseCore `c` holds. -/
def coreHas (d : Dev nD) (c : Fin (grid0.bound 0)) (g : S8x512x512.Idx → F .f32) : sProp 𝕄 :=
  iprop(reads d (shareC c) (sdOf m d) (tabOf m d) ∗ outLoc d ↦[mineC c]{fullShare} (g : Buf (Elt F) (outLoc d)))

/-- Shares of the arrays read, dealt out to the members of a finite set. -/
theorem reads_deal {ι : Type} [LinearOrder ι] (s : Finset ι) (hs : s.Nonempty) (d : Dev nD) (q : PosShare TreeShare)
    (sd : S8x512x2048.Idx → F .f32) (tab : S1024x512.Idx → BitVec 32) :
    (reads d q sd tab : sProp 𝕄) = bigSep s fun i => reads d (Transfers.dealOf q s i) sd tab := by
  unfold reads
  rw [bigSep_sep', ← Transfers.pointsTo_deal s hs q, ← Transfers.pointsTo_deal s hs q]

theorem row0_tile (c : Fin (grid0.bound 0)) (i : Fin (grid0.bound 1)) : row0 (tile c i) = 32 * i.val + 16 * c.val := rfl

theorem mine_disjoint (c : Fin (grid0.bound 0)) (i : Fin (grid0.bound 1)) (c' : Fin (grid0.bound 0)) (i' : Fin (grid0.bound 1))
    (h : c ≠ c' ∨ i ≠ i') : Disjoint (mine (tile c i)) (mine (tile c' i')) := by
  rw [Finset.disjoint_left]
  intro y hy hy'
  rw [mem_mine, row0_tile] at hy hy'
  have hc : c.val < 2 := c.isLt
  have hc' : c'.val < 2 := c'.isLt
  rcases h with h | h <;> exact h (Fin.ext (by omega))

/-- A SparseCore's part is its tiles' parts. -/
theorem coreHas_eq (d : Dev nD) (c : Fin (grid0.bound 0)) (g : S8x512x512.Idx → F .f32) :
    (coreHas m d c g : sProp 𝕄) = bigSep Finset.univ fun i => tileHas m d c i g := by
  unfold coreHas tileHas
  rw [bigSep_sep', reads_deal (Finset.univ : Finset (Fin (grid0.bound 1))) ⟨⟨0, by decide⟩, Finset.mem_univ _⟩ d (shareC c)]
  unfold mineC
  rw [pointsTo_biUnion Finset.univ (ℓ := outLoc d) (fun i => mine (tile c i)) fun i _ i' _ h => mine_disjoint c i c i' (Or.inr h)]
  rfl

theorem mineC_cover : Finset.univ.biUnion mineC = Finset.univ := by
  refine Finset.eq_univ_iff_forall.mpr fun y => ?_
  have hy : (y 1).val < 512 := (y 1).isLt
  refine Finset.mem_biUnion.mpr ⟨⟨(y 1).val / 16 % 2, Nat.mod_lt _ (by decide)⟩, Finset.mem_univ _, ?_⟩
  refine Finset.mem_biUnion.mpr ⟨⟨(y 1).val / 32, show (y 1).val / 32 < 16 by omega⟩, Finset.mem_univ _, ?_⟩
  rw [mem_mine, row0_tile]
  show 32 * ((y 1).val / 32) + 16 * ((y 1).val / 16 % 2) ≤ (y 1).val ∧ (y 1).val < 32 * ((y 1).val / 32) + 16 * ((y 1).val / 16 % 2) + 16
  omega

/-- The arrays whole are both SparseCores' parts. -/
theorem whole_eq (d : Dev nD) (g : S8x512x512.Idx → F .f32) :
    (iprop(reads d fullShare (sdOf m d) (tabOf m d) ∗ outLoc d ↦{fullShare} (g : Buf (Elt F) (outLoc d))) : sProp 𝕄)
      = bigSep Finset.univ fun c => coreHas m d c g := by
  unfold coreHas
  rw [bigSep_sep', reads_deal (Finset.univ : Finset (Fin (grid0.bound 0))) ⟨⟨0, by decide⟩, Finset.mem_univ _⟩ d fullShare,
    ← pointsTo_biUnion Finset.univ (ℓ := outLoc d) mineC fun c _ c' _ h => ?_, mineC_cover]
  · rfl
  · refine Finset.disjoint_biUnion_left _ _ _ |>.mpr fun i _ => Finset.disjoint_biUnion_right _ _ _ |>.mpr fun i' _ => ?_
    exact mine_disjoint c i c' i' (Or.inl h)

/-! ## The call's payloads -/

/-- What the result holds before the call, and after it. -/
abbrev out0 (d : Dev nD) : S8x512x512.Idx → F .f32 := atCall m d (Proc.devRef .tc main_v39)
abbrev out1 (d : Dev nD) : S8x512x512.Idx → F .f32 := das zero (sdOf m d) (tabOf m d)

/-- Each SparseCore and each tile gets its part with the result as it was and gives it back with the sums. -/
def P : (K (F := F)).Pay (nD := nD) (Val := Elt F) (Name := ℕ) (U := UU) where
  st := fun | 0, d, c => coreHas m d c (out0 m d)
  dn := fun | 0, d, c => coreHas m d c (out1 m d)
  go := fun | 0, d, c, i => tileHas m d c i (out0 m d)
  td := fun | 0, d, c, i => tileHas m d c i (out1 m d)
  x := fun _ _ => iprop(emp)

instance coreHas_storable (d : Dev nD) (c) (g) : BI.Storable (upEmb : UEmb _ 𝕄) (coreHas m d c g) := by
  unfold coreHas reads; infer_instance
instance tileHas_storable (d : Dev nD) (c) (i) (g) : BI.Storable (upEmb : UEmb _ 𝕄) (tileHas m d c i g) := by
  unfold tileHas reads; infer_instance

instance P_storable : (P (F := F) m).IsStorable where
  st | 0, d, c => coreHas_storable m d c _
  dn | 0, d, c => coreHas_storable m d c _
  go | 0, d, c, i => tileHas_storable m d c i _
  td | 0, d, c, i => tileHas_storable m d c i _

theorem splitCore (d : Dev nD) (c : Fin (grid0.bound 0)) (g g' : S8x512x512.Idx → F .f32) :
    (coreHas m d c g : sProp 𝕄) ⊢ |={Set.univ}=> iprop((bigSep Finset.univ fun i => tileHas m d c i g)
      ∗ ((bigSep Finset.univ fun i => tileHas m d c i g') -∗ coreHas m d c g')) := by
  rw [coreHas_eq, coreHas_eq]
  iintro H; imodintro
  isplitl [H]; · iexact H
  iintro H; iexact H

theorem vecSplit : (K (F := F)).VecSplit' (P m) 0 := fun d c => splitCore m d c _ _

/-! ## The tiles' task -/

theorem defs₀_vector (c : Fin τ.nSC) (s : Fin τ.nSub) :
    defs₀ (F := F) (.scVector c s) 0 ()
      = SparseCore.onTile hcore0 hsub0 (fun c s => cc0__das_body (tile c s)
          sdV (Memref.isWhole_whole _) tabV (Memref.isWhole_whole _) outV (Memref.isWhole_whole _)
          bS (Memref.isWhole_whole _) bT (Memref.isWhole_whole _) bA (Memref.isWhole_whole _)
          cc0_scoped0 cc0_scoped1 cc0_scoped2 cc0_scoped3 cc0_scoped4) ⟨⟩ c s := rfl

/-- A tile waits for no call's signal, so its waits are as the call asks. -/
theorem waits_weaken {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW, HO⟩
  isplitl [HA]; · iexact HA
  isplitl [HB]; · iexact HB
  isplitl [HC]; · iexact HC
  iexists W'
  isplitr
  · ipureintro; exact fun p hp => (hW p hp).imp_right Or.inl
  iexact HO

theorem tileTask (d : Dev nD) (c : Fin (grid0.bound 0)) (i : Fin (grid0.bound 1))
    (O : CellTallies nD τ sig (HIx 1)) (W : Waits sig (HIx 1)) (hO : ∀ g, O g none = 0) :
    iprop(levAts (K (F := F)).L (K (F := F)).lev ∗ emp ∗ tileHas m d c i (out0 m d)
        ∗ scopedBufs (thr d (tile c i)) ∗ scopedSems0 (thr d (tile c i)) ∗ owes (thr d (tile c i)) O W)
      ⊢ wp frame (wpE (defs₀ (F := F)) 𝒱₀ (thr d (tile c i)) none) Set.univ
          (cc0__das_body (F := F) (tile c i) sdV (Memref.isWhole_whole _) tabV (Memref.isWhole_whole _) outV (Memref.isWhole_whole _)
            bS (Memref.isWhole_whole _) bT (Memref.isWhole_whole _) bA (Memref.isWhole_whole _)
            cc0_scoped0 cc0_scoped1 cc0_scoped2 cc0_scoped3 cc0_scoped4)
          fun _ => iprop(tileHas m d c i (out1 m d) ∗ scopedBufs (thr d (tile c i)) ∗ scopedSems0 (thr d (tile c i))
            ∗ ∃ W', ⌜∀ p ∈ W', p ∈ W ∨ p.2 = none ∨ p.2 = some 0⌝ ∗ owes (thr d (tile c i)) O W') := by
  refine BIBase.Entails.trans ?_ ((tile_body d (tile c i) (shareT c i) (sdOf m d) (tabOf m d) (tabOf_lt m d) O W hO).trans
    (wp_mono frame _ _ fun _ => waits_weaken))
  unfold tileHas
  iintro ⟨Hlv, -, ⟨Hr, Ho⟩, H⟩
  isplitl [Hlv]; · iexact Hlv
  isplitl [Hr Ho]
  · isplitl [Hr]; · iexact Hr
    iexists _; iexact Ho
  iexact H

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact tileTask m d ⟨_, hc.1⟩ ⟨_, hc.2⟩ O W hO

/-! ## The launch element -/

def u₀ : UU := (initOf (K (F := F)).hsCells (K (F := F)).hsToks, 1)

theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P m).x q t) := by
  have hx : (bigSep Finset.univ fun t : Thread nD τ => bigSep Finset.univ fun q : Fin 1 => (P m).x q t) = (iprop(emp) : sProp 𝕄) := by
    show (bigSep Finset.univ fun _ : Thread nD τ => bigSep Finset.univ fun _ : Fin 1 => (iprop(emp) : sProp 𝕄)) = iprop(emp)
    rw [bigSep_congr fun _ _ => emps _, emps]
  rw [hx, emps]
  unfold u₀
  iintro Hu
  ihave H := (ownU_pair _ _) $$ Hu
  icases H with ⟨HH, -⟩
  imodintro
  isplitl [HH]; · iexact HH
  isplitr <;> iempintro

/-! ## @main -/

/-- The three arrays of the call. -/
abbrev three : Finset (DevRef τ sig) := {Proc.devRef .tc main_v0, Proc.devRef .tc main_v38, Proc.devRef .tc main_v39}

theorem three_sub : three ⊆ ucRefs τ sig := by decide

theorem held_three (d : Dev nD) (W : Valuation τ sig (Elt F)) :
    (held (T d) three W : sProp 𝕄) = iprop(reads d fullShare (W (Proc.devRef .tc main_v0)) (W (Proc.devRef .tc main_v38))
      ∗ outLoc d ↦{fullShare} W (Proc.devRef .tc main_v39)) := by
  unfold held three reads
  rw [SparseCore.bigSep_insert' (by decide), SparseCore.bigSep_insert' (by decide), bigSep_singleton]
  exact (equiv_iff.mp ⟨BI.sep_assoc, BI.sep_assoc'⟩).symm

/-- Device `d`'s buffers at the end. -/
def atEnd (d : Dev nD) : Valuation τ sig (Elt F) := (last (F := F)).result (afterCall m d)

theorem afterCall_rest (d : Dev nD) :
    (held (T d) (ucRefs τ sig \ three) (afterCall m d) : sProp 𝕄) = held (T d) (ucRefs τ sig \ three) (atCall m d) :=
  held_congr _ fun b hb => Function.update_of_ne (fun e => (Finset.mem_sdiff.mp hb).2 (by rw [e]; decide)) _ _

theorem held_call (d : Dev nD) :
    (held (T d) (ucRefs τ sig) (after before (launchContents m d)) : sProp 𝕄)
      = iprop((reads d fullShare (sdOf m d) (tabOf m d) ∗ outLoc d ↦{fullShare} (out0 m d : Buf (Elt F) (outLoc d)))
          ∗ held (T d) (ucRefs τ sig \ three) (atCall m d)) := by
  rw [held_sub_split _ three_sub, held_three]
  rfl

theorem held_after (d : Dev nD) :
    (held (T d) (ucRefs τ sig) (afterCall m d) : sProp 𝕄)
      = iprop((reads d fullShare (sdOf m d) (tabOf m d) ∗ outLoc d ↦{fullShare} (out1 m d : Buf (Elt F) (outLoc d)))
          ∗ held (T d) (ucRefs τ sig \ three) (atCall m d)) := by
  rw [held_sub_split _ three_sub, held_three, afterCall_rest]
  unfold afterCall
  rw [Function.update_self, Function.update_of_ne (by decide), Function.update_of_ne (by decide)]
  rfl

theorem back_call (d : Dev nD) :
    (bigSep Finset.univ fun c : Fin ((K (F := F)).nCore 0) => (P m).dn 0 d c : sProp 𝕄)
      ⊢ iprop(reads d fullShare (sdOf m d) (tabOf m d) ∗ outLoc d ↦{fullShare} (out1 m d : Buf (Elt F) (outLoc d))) :=
  Entails.of_eq (whole_eq m d (out1 m d)).symm

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ held (T d) (ucRefs τ sig) (atEnd m d) ∗ (K (F := F)).tcEnd d) := by
  unfold SparseCore.Cfg.tcRes SparseCore.Cfg.tcEnd
  rw [show (unscopedBufs d (fun b => m ((SparseCore.T d).loc b)) : sProp 𝕄) = held (T d) (ucRefs τ sig) (launchContents m d) from
    Pipeline.unscopedBufs_held d (launchContents m d), main_eq]
  iintro ⟨#Hctx, Hst, ⟨Hb, Hheld, Hts, -⟩, -⟩
  iapply (wp_seq 𝒱 none Set.univ d (ucRefs τ sig) (fun _ => (K (F := F)).run d 0 >>= fun _ => hlo rfl last fun _ => .ret ⟨⟩) before
    (fun op h => sub_ucRefs op (List.forall_iff_forall_mem.1 before_sub op h)) (List.forall_iff_forall_mem.1 before_fresh) (launchContents m d)) $$ [Hb Hheld]
  · isplitl [Hb]; · iexact Hb
    iexact Hheld
  iintro ⟨Hb, Hheld⟩
  ihave Hall := (Entails.of_eq (held_call m d)) $$ Hheld
  icases Hall with ⟨Hcall, Hrest⟩
  rw [wp_bind]
  iapply ((K (F := F)).wp_run (D (F := F)) 𝒱 (EH := EH) (P := P m) κ d 0) $$ [Hst Hcall Hb Hrest Hts]
  isplitr; · iexact Hctx
  isplitl [Hst]; · iexact Hst
  isplitl [Hcall]
  · iapply (Entails.of_eq (whole_eq m d (out0 m d))) $$ Hcall
  iintro ⟨Hst, Hdn⟩
  ihave Hcall := (back_call m d) $$ Hdn
  iapply (wp_hlo_within 𝒱 (SparseCore.T d) none Set.univ (op := last) (S := ucRefs τ sig)
    (sub_ucRefs _ (StableHlo.reshape_bufs_sub ..)) (V := afterCall m d)) $$ [Hb Hcall Hrest]
  · isplitl [Hb]; · iexact Hb
    iapply (Entails.of_eq (held_after m d).symm)
    isplitl [Hcall]
    · iexact Hcall
    iexact Hrest
  iintro ⟨Hb, Hheld⟩
  rw [wp_ret]; imodintro
  isplitl [Hst]; · iexact Hst
  isplitl [Hheld]; · iexact Hheld
  isplitl [Hb] <;> iassumption

/-! ## The program's run -/

/-- Device `d`'s unscoped arrays are as `atEnd` has them. -/
def ends (d : Dev nD) (s' : Phys nD τ sig (Elt F)) : Prop := ∀ b ∈ ucRefs τ sig, s'.mem.mem (d, b) = atEnd m d b

theorem hfin (d : Dev nD) (s' : Phys nD τ sig (Elt F)) : iprop(held (T d) (ucRefs τ sig) (atEnd m d) ∗ SI s') ⊢ (⌜ends m d s'⌝ : sProp 𝕄) := by
  unfold held
  iintro ⟨H, HSI⟩
  ihave %h := (SI_pointsTo_bufs_agree (qs := fun _ => fullShare) (ucRefs τ sig)) $$ [HSI H]
  · isplitl [HSI]; · iexact HSI
    iexact H
  ipureintro
  exact h

/-- Every run ends, with each unscoped array of each device as `atEnd` has it and every counter at zero. -/
theorem run_ends [∀ e, Nonempty (Elt F e)] : θ_run (Cert.KernelIdeal.defs (F := F)) (Cert.KernelIdeal.threads (F := F)) ⟨m, fun _ => 0, ρ⟩
    fun r => (∀ d : Dev nD, ∀ b ∈ ucRefs τ sig, r.2.mem (d, b) = atEnd m d b) ∧ r.2.sem = fun _ => 0 :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (fun d => held (T d) (ucRefs τ sig) (atEnd m d)) (u₀ (F := F)) (sep_elim_left.trans (hu₀ m)) (hmain m ρ)
    (ends m) (hfin m) _ (fun _ h hz => ⟨h, hz⟩)

/-- The three arrays the claims name: the arguments are unchanged, and the result is the sums over the samples by plane and the
    table of delays. -/
theorem atEnd_arg0 (d : Dev nD) : atEnd m d (Proc.devRef .tc main_arg0) = m ((SparseCore.T d).loc main_arg0) := by
  have h : atCall m d (Proc.devRef .tc main_arg0) = launchContents m d (Proc.devRef .tc main_arg0) := by
    unfold atCall before
    after_reads_simp
  have h' : atEnd m d (Proc.devRef .tc main_arg0) = afterCall m d (Proc.devRef .tc main_arg0) := by
    unfold atEnd last
    exact StableHlo.reshape_result_ne (r := main_arg0) (h := by decide) ..
  exact (h'.trans (Function.update_of_ne (by decide) _ _)).trans h

theorem atEnd_arg1 (d : Dev nD) : atEnd m d (Proc.devRef .tc main_arg1) = m ((SparseCore.T d).loc main_arg1) := by
  have h : atCall m d (Proc.devRef .tc main_arg1) = launchContents m d (Proc.devRef .tc main_arg1) := by
    unfold atCall before
    after_reads_simp
  have h' : atEnd m d (Proc.devRef .tc main_arg1) = afterCall m d (Proc.devRef .tc main_arg1) := by
    unfold atEnd last
    exact StableHlo.reshape_result_ne (r := main_arg1) (h := by decide) ..
  exact (h'.trans (Function.update_of_ne (by decide) _ _)).trans h

/-- The program's result as a function of its arguments. -/
def value (s : S4x2x512x2048.Idx → F .f32) (a : S512x2.Idx → BitVec 32) : S4x2x512x512.Idx → F .f32 :=
  shapeCast S4x2x512x512 (das zero (shapeCast S8x512x2048 s shapeCasts_S4x2x512x2048_S8x512x2048) (table (F := F) a))
    shapeCasts_S8x512x512_S4x2x512x512

theorem atEnd_res (d : Dev nD) : atEnd m d (Proc.devRef .tc main_v40) = value (m ((SparseCore.T d).loc main_arg0)) (m ((SparseCore.T d).loc main_arg1)) := by
  unfold atEnd last
  rw [StableHlo.reshape_result']
  have h : afterCall m d (Proc.devRef .tc main_v39) = das zero (sdOf m d) (tabOf m d) := Function.update_self _ _ _
  rw [h]
  unfold sdOf tabOf atCall
  rw [after_sd, after_tab]
  rfl

/-- The run, read at the arrays the claims name. -/
theorem run_main [∀ e, Nonempty (Elt F e)] : θ_run (Cert.KernelIdeal.defs (F := F)) (Cert.KernelIdeal.threads (F := F)) ⟨m, fun _ => 0, ρ⟩
    fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_v40)
            = value (m ((c.tc : Thread nD τ).loc main_arg0)) (m ((c.tc : Thread nD τ).loc main_arg1)))
      ∧ r.2.sem = fun _ => 0 := by
  refine (θ_run _ _ _).mono (fun r h => ⟨fun c => ⟨?_, ?_, ?_⟩, h.2⟩) (run_ends m ρ)
  · exact (h.1 c _ (by decide : (Proc.devRef .tc main_arg0 : DevRef τ sig) ∈ ucRefs τ sig)).trans (atEnd_arg0 m c)
  · exact (h.1 c _ (by decide : (Proc.devRef .tc main_arg1 : DevRef τ sig) ∈ ucRefs τ sig)).trans (atEnd_arg1 m c)
  · exact (h.1 c _ (by decide : (Proc.devRef .tc main_v40 : DevRef τ sig) ∈ ucRefs τ sig)).trans (atEnd_res m c)

end Cert.Proof.KernelIdeal
-- ==== Proof.RefSteps.lean ====
/-
  One trip of the reference's loop, stretch by stretch: the sensor's coordinates, its samples, the delays of all pixels from it,
  the samples taken at the delays, and the image with them added.
-/
module

public import proofs.«01_k».proof.Proof.Gen.ReferenceIdeal.Run
public import proofs.«01_k».proof.Proof.Delay
public import Idealize.ShloMosaic.Lib.StableHlo.ReadAt
public import Idealize.ShloMosaic.Lib.ReduceAll
public import Idealize.ShloMosaic.Lib.WordCmp
public import Idealize.ShloMosaic.Lib.WordArith
public import Idealize.ShloMosaic.Lib.ValueLayout

@[expose] public section

noncomputable section

namespace Cert.Proof.Reference

open Cert.ReferenceIdeal Cert.ReferenceIdeal.Gen Cert.ReferenceIdeal.Value
open Idealize.ShloMosaic Idealize.ShloMosaic.TcCoe Idealize.ShloMosaic.ValueIdx Cert.Proof.Sums Cert.Proof.Delay
open Idealize.ShloMosaic.StableHlo

variable {F : FTy → Type} [FloatOps F]

/-! ## The sensor's coordinates and samples -/

/-- Row `n` of the sensors' coordinates, `n` a word. -/
def coords (a : S512x2.Idx → BitVec 32) (n : BitVec 32) : S2.Idx → BitVec 32 :=
  shapeCast S2 (Host.dynamicSlice S1x2 a ![n.toInt, 0] sliceFits_S512x2_S1x2) shapeCasts_S1x2_S2

/-- Sensor `n`'s samples, `n` a word. -/
def samples (s : S512x4x2x2048.Idx → F .f32) (n : BitVec 32) : S4x2x2048.Idx → F .f32 :=
  shapeCast S4x2x2048 (Host.dynamicSlice S1x4x2x2048 s ![n.toInt, 0, 0, 0] sliceFits_S512x4x2x2048_S1x4x2x2048) shapeCasts_S1x4x2x2048_S4x2x2048

theorem step0 (X : Valuation τ sig (Elt F)) (n : BitVec 32) (h : X (Proc.devRef .tc main_v10_4) = fun _ => n) :
    after while0Ops0 X (Proc.devRef .tc main_while0b_v11) = coords (X (Proc.devRef .tc main_v10_0)) n := by
  after_reads_simp
  unfold coords
  refine congrArg (fun d => shapeCast S2 (Host.dynamicSlice S1x2 (X (Proc.devRef .tc main_v10_0)) d sliceFits_S512x2_S1x2) shapeCasts_S1x2_S2)
    (funext fun q => ?_)
  match q with
  | ⟨0, _⟩ => exact congrArg BitVec.toInt (congrFun h _)
  | ⟨1, _⟩ => rfl

theorem step1 (X : Valuation τ sig (Elt F)) (n : BitVec 32) (h : X (Proc.devRef .tc main_v10_4) = fun _ => n) :
    after while0Ops0_1 X (Proc.devRef .tc main_while0b_v12) = samples (X (Proc.devRef .tc main_v10_1)) n := by
  after_reads_simp
  unfold samples
  refine congrArg (fun d => shapeCast S4x2x2048 (Host.dynamicSlice S1x4x2x2048 (X (Proc.devRef .tc main_v10_1)) d
    sliceFits_S512x4x2x2048_S1x4x2x2048) shapeCasts_S1x4x2x2048_S4x2x2048) (funext fun q => ?_)
  match q with
  | ⟨0, _⟩ => exact congrArg BitVec.toInt (congrFun h _)
  | ⟨1, _⟩ => rfl
  | ⟨2, _⟩ => rfl
  | ⟨3, _⟩ => rfl

/-! ## The delays -/

/-- The delays of all pixels from a sensor at `(x, y)`, pixel rows and columns at the coordinates `u` and `v`. -/
def delays (x y : BitVec 32) (u : S512x1.Idx → F .f32) (v : S1x512.Idx → F .f32) : S512x512.Idx → BitVec 32 := fun z =>
  delay (FloatOps.addf (FloatOps.subf (FloatOps.sitofp .f32 x) (u (ValueIdx.ix2 (z 0) 0))) one)
    (FloatOps.addf (FloatOps.subf (FloatOps.sitofp .f32 y) (v (ValueIdx.ix2 0 (z 1)))) one)

theorem step2_flat (X : Valuation τ sig (Elt F)) :
    after while0Ops0_2 X (Proc.devRef .tc main_while0b_v42)
      = shapeCast S262144 (after while0Ops0_2 X (Proc.devRef .tc main_while0b_v41) : IVec S512x512 32) shapeCasts_S512x512_S262144 := by
  after_reads_simp
  rfl

theorem step2_at (X : Valuation τ sig (Elt F)) (z : S512x512.Idx) :
    after while0Ops0_2 X (Proc.devRef .tc main_while0b_v41) z
      = delays (X (Proc.devRef .tc main_while0b_v11) (ValueIdx.ix1 0)) (X (Proc.devRef .tc main_while0b_v11) (ValueIdx.ix1 1))
          (X (Proc.devRef .tc main_v10_2)) (X (Proc.devRef .tc main_v10_3)) z := by
  after_reads_at
  rfl

theorem step2 (X : Valuation τ sig (Elt F)) :
    after while0Ops0_2 X (Proc.devRef .tc main_while0b_v42)
      = shapeCast S262144 (delays (X (Proc.devRef .tc main_while0b_v11) (ValueIdx.ix1 0)) (X (Proc.devRef .tc main_while0b_v11) (ValueIdx.ix1 1))
          (X (Proc.devRef .tc main_v10_2)) (X (Proc.devRef .tc main_v10_3))) shapeCasts_S512x512_S262144 :=
  (step2_flat X).trans (congrArg (fun d => shapeCast S262144 d shapeCasts_S512x512_S262144) (funext (step2_at X)))

/-! ## The samples taken -/

/-- What `take` in fill mode leaves: sample `t` of a row where `t` (a negative one counted from the end) is in range, not a number elsewhere. -/
def taken (s : S4x2x2048.Idx → F .f32) (t : S262144.Idx → BitVec 32) : S4x2x262144.Idx → F .f32 :=
  let w : IVec S262144 32 := select (cmpi .slt t (broadcastInDim S262144 ![] bcast_S_S262144 (constantI S_ 32 0#32)))
    (addi t (broadcastInDim S262144 ![] bcast_S_S262144 (constantI S_ 32 2048#32))) t
  let i : IVec S262144x1 32 := broadcastInDim S262144x1 ![0] bcast_S262144_S262144x1_0 w
  let ok : IVec S262144x1 1 := andi (cmpi .sge i (broadcastInDim S262144x1 ![] bcast_S_S262144x1 (constantI S_ 32 0#32)))
    (cmpi .sle i (broadcastInDim S262144x1 ![0, 1] bcast_S1x1_S262144x1_0_1 (broadcastInDim S1x1 ![1] bcast_S1_S1x1_1 (constantI S1 32 2047#32))))
  select (broadcastInDim S4x2x262144 ![2] bcast_S262144_S4x2x262144_2
      (Host.reduce IntOp.andi ok (constantI S_ 1 1#1) reducesTo_S262144x1_S262144_d1 h_S_))
    (Host.gather gather_S4x2x2048_S262144x1_S4x2x262144_01_2_n_n_2_1_421 s i)
    (broadcastInDim S4x2x262144 ![] bcast_S_S4x2x262144 (constant S_ .f32 0x7FC00000#32))

set_option maxRecDepth 100000 in
theorem step3 (X : Valuation τ sig (Elt F)) :
    after while0Ops0_3 X (Proc.devRef .tc main_while0b_v43)
      = taken (X (Proc.devRef .tc main_while0b_v12)) (X (Proc.devRef .tc main_while0b_v42)) := by
  after_reads_simp
  simp -implicitDefEqProofs only [StableHlo.TRef.toBuf, StableHlo.TRef.ofBuf, cast_cast, cast_eq]
  clean_types
  unfold taken
  rfl

/-! ## The image -/

theorem step4 (X : Valuation τ sig (Elt F)) :
    after while0Ops0_4 X (Proc.devRef .tc main_v10_5)
      = addf (X (Proc.devRef .tc main_v10_5) : FVec F S4x2x512x512 .f32)
          (shapeCast S4x2x512x512 (X (Proc.devRef .tc main_while0b_v43) : FVec F S4x2x262144 .f32) shapeCasts_S4x2x262144_S4x2x512x512) := by
  after_reads_simp
  rfl

end Cert.Proof.Reference
-- ==== Proof.RefReads.lean ====
/-
  The reference's reshapes, slices and gather read at an index.
-/
module

public import proofs.«01_k».proof.Proof.RefSteps
public import Idealize.ShloMosaic.Lib.Pipeline.Value
public import Idealize.ShloMosaic.Lib.DynamicIndex

@[expose] public section

noncomputable section

namespace Cert.Proof.Reference

open Cert.ReferenceIdeal Cert.ReferenceIdeal.Gen Cert.ReferenceIdeal.Value
open Idealize.ShloMosaic Idealize.ShloMosaic.TcCoe Cert.Proof.Sums Cert.Proof.Delay
open Idealize.ShloMosaic.StableHlo

variable {F : FTy → Type} [FloatOps F]

theorem word_toInt {n : ℕ} (hn : n < 2048) : (BitVec.ofNat 32 n).toInt = (n : Int) := by
  rw [BitVec.toInt_eq_toNat_cond, BitVec.toNat_ofNat, Nat.mod_eq_of_lt (by omega), if_pos (by omega)]

theorem toInt_of_small {t : BitVec 32} (h : t.toNat < 2048) : t.toInt = (t.toNat : Int) := by
  rw [BitVec.toInt_eq_toNat_cond, if_pos (by omega)]

/-- Sensor `n`'s coordinates are row `n`. -/
theorem coords_apply (a : S512x2.Idx → BitVec 32) {n : ℕ} (hn : n < 512) (q : Fin 2) :
    coords a (BitVec.ofNat 32 n) (ValueIdx.ix1 q) = a (ValueIdx.ix2 ⟨n, hn⟩ q) := by
  have hq := q.isLt
  unfold coords
  rw [shapeCast_apply _ _ _ (ValueIdx.ix2 (0 : Fin 1) q)
    (by rw [Shape.rowMajor_val_two, Shape.rowMajor_val_one]; show 0 * 2 + q.val = q.val; omega)]
  rw [Host.dynamicSlice_eq_extractStridedSlice S1x2 a _ ![n, 0] _ ⟨rfl, fun d => match d with
      | ⟨0, _⟩ => show n + 1 ≤ 512 by omega
      | ⟨1, _⟩ => show 0 + 2 ≤ 2 by omega⟩ (fun d => match d with
      | ⟨0, _⟩ => word_toInt (by omega)
      | ⟨1, _⟩ => rfl)]
  refine congrArg a (funext fun d => Fin.ext ?_)
  match d with
  | ⟨0, _⟩ => rfl
  | ⟨1, _⟩ => exact Nat.zero_add _

/-- Sensor `n`'s samples are row `n`. -/
theorem samples_apply (s : S512x4x2x2048.Idx → F .f32) {n : ℕ} (hn : n < 512) (b : Fin 4) (u : Fin 2) (t : Fin 2048) :
    samples s (BitVec.ofNat 32 n) (ValueIdx.ix3 b u t) = s (ValueIdx.ix4 ⟨n, hn⟩ b u t) := by
  unfold samples
  rw [shapeCast_apply _ _ _ (ValueIdx.ix4 (0 : Fin 1) b u t)
    (by rw [Shape.rowMajor_val_four, Shape.rowMajor_val_three]
        show ((0 * 4 + b.val) * 2 + u.val) * 2048 + t.val = (b.val * 2 + u.val) * 2048 + t.val; omega)]
  rw [Host.dynamicSlice_eq_extractStridedSlice S1x4x2x2048 s _ ![n, 0, 0, 0] _ ⟨rfl, fun d => match d with
      | ⟨0, _⟩ => show n + 1 ≤ 512 by omega
      | ⟨1, _⟩ => show 0 + 4 ≤ 4 by omega
      | ⟨2, _⟩ => show 0 + 2 ≤ 2 by omega
      | ⟨3, _⟩ => show 0 + 2048 ≤ 2048 by omega⟩ (fun d => match d with
      | ⟨0, _⟩ => word_toInt (by omega)
      | ⟨1, _⟩ => rfl
      | ⟨2, _⟩ => rfl
      | ⟨3, _⟩ => rfl)]
  refine congrArg s (funext fun d => Fin.ext ?_)
  match d with
  | ⟨0, _⟩ => rfl
  | ⟨1, _⟩ => exact Nat.zero_add _
  | ⟨2, _⟩ => exact Nat.zero_add _
  | ⟨3, _⟩ => exact Nat.zero_add _

/-- The flat number of pixel `(i, j)`. -/
def flat (i j : Fin 512) : Fin 262144 := ⟨i.val * 512 + j.val, by have := i.isLt; have := j.isLt; omega⟩

/-- The image reshaped from flat pixels. -/
theorem unflat_apply {α : Type} (w : S4x2x262144.Idx → α) (z : S4x2x512x512.Idx) :
    shapeCast S4x2x512x512 w shapeCasts_S4x2x262144_S4x2x512x512 z = w (ValueIdx.ix3 (z 0) (z 1) (flat (z 2) (z 3))) := by
  refine shapeCast_apply _ _ _ _ ?_
  rw [Shape.rowMajor_val_four, Shape.rowMajor_val_three]
  show ((z 0).val * 2 + (z 1).val) * 262144 + ((z 2).val * 512 + (z 3).val) = (((z 0).val * 2 + (z 1).val) * 512 + (z 2).val) * 512 + (z 3).val
  omega

/-- Flat pixel `(i, j)` of an array over the pixels. -/
theorem flat_apply {α : Type} (d : S512x512.Idx → α) (i j : Fin 512) :
    shapeCast S262144 d shapeCasts_S512x512_S262144 (ValueIdx.ix1 (flat i j)) = d (ValueIdx.ix2 i j) := by
  refine shapeCast_apply _ _ _ _ ?_
  rw [Shape.rowMajor_val_two, Shape.rowMajor_val_one]
  rfl

/-- A flat array of words below a bound. -/
theorem flat_lt (d : S512x512.Idx → BitVec 32) (h : ∀ z, (d z).toNat < 2048) (q : S262144.Idx) :
    (shapeCast S262144 d shapeCasts_S512x512_S262144 q).toNat < 2048 := h _

/-- The gather of a row's samples, at an index in range. -/
theorem gather_apply (s : S4x2x2048.Idx → F .f32) (w : S262144x1.Idx → BitVec 32) (b : Fin 4) (u : Fin 2) (q : Fin 262144)
    (h : (w (ValueIdx.ix2 q 0)).toNat < 2048) :
    Host.gather gather_S4x2x2048_S262144x1_S4x2x262144_01_2_n_n_2_1_421 s w (ValueIdx.ix3 b u q)
      = s (ValueIdx.ix3 b u ⟨(w (ValueIdx.ix2 q 0)).toNat, h⟩) := by
  set D := gather_S4x2x2048_S262144x1_S4x2x262144_01_2_n_n_2_1_421
  unfold Host.gather
  refine congrArg s (funext fun a => Fin.ext ?_)
  show D.start _ w a + D.batchCoord _ a + D.offCoord _ a = _
  rw [GatherDims.batchCoord_eq_zero _ _ _ List.not_mem_nil]
  match a with
  | ⟨0, _⟩ =>
    have h0 : D.start (ValueIdx.ix3 b u q) w ⟨0, by decide⟩ = 0 := by
      unfold GatherDims.start; rw [dif_neg (by decide)]
    show D.start _ w ⟨0, _⟩ + 0 + D.offCoord _ ⟨0, _⟩ = b.val
    rw [h0, Nat.zero_add]
    rfl
  | ⟨1, _⟩ =>
    have h0 : D.start (ValueIdx.ix3 b u q) w ⟨1, by decide⟩ = 0 := by
      unfold GatherDims.start; rw [dif_neg (by decide)]
    show D.start _ w ⟨1, _⟩ + 0 + D.offCoord _ ⟨1, _⟩ = u.val
    rw [h0, Nat.zero_add]
    rfl
  | ⟨2, _⟩ =>
    show D.start _ w (2 : Fin 3) + 0 + D.offCoord _ (2 : Fin 3) = (w (ValueIdx.ix2 q 0)).toNat
    rw [GatherDims.offCoord_eq_zero _ _ _ (fun h => ((GatherDims.mem_sKept _ _).mp h).1 (List.mem_singleton.mpr rfl))]
    unfold GatherDims.start
    rw [dif_pos (show (2 : Fin 3) ∈ D.startIndexMap from List.mem_singleton.mpr rfl)]
    have hsi : D.siIdx (ValueIdx.ix3 b u q) ⟨List.idxOf (2 : Fin 3) D.startIndexMap,
        List.idxOf_lt_length_iff.2 (List.mem_singleton.mpr rfl)⟩ = ValueIdx.ix2 q 0 := by
      funext e; refine Fin.ext ?_
      match e with
      | ⟨0, _⟩ => rfl
      | ⟨1, _⟩ => rfl
    have hm : min (w (ValueIdx.ix2 q 0)).toInt.toNat (2048 - 1) = (w (ValueIdx.ix2 q 0)).toNat := by
      rw [toInt_of_small h]; omega
    rw [← hm, ← hsi]
    rfl

/-- Where all delays are in range, `take` reads the samples at them. -/
theorem taken_apply (s : S4x2x2048.Idx → F .f32) (t : S262144.Idx → BitVec 32) (h : ∀ q, (t q).toNat < 2048)
    (b : Fin 4) (u : Fin 2) (q : Fin 262144) :
    taken s t (ValueIdx.ix3 b u q) = s (ValueIdx.ix3 b u ⟨(t (ValueIdx.ix1 q)).toNat, h _⟩) := by
  have hw : select (cmpi .slt t (broadcastInDim S262144 ![] bcast_S_S262144 (constantI S_ 32 0#32)))
      (addi t (broadcastInDim S262144 ![] bcast_S_S262144 (constantI S_ 32 2048#32))) t = t := by
    funext q
    refine (select_slt_zero_of_nonneg t _ _ q ?_)
    rw [toInt_of_small (h q)]; exact Int.natCast_nonneg _
  have hb : ∀ i, broadcastInDim S262144x1 ![0] bcast_S262144_S262144x1_0 t i = t (ValueIdx.ix1 (i 0)) := fun i =>
    broadcastInDim_apply _ _ _ _ _ fun d => match d with | ⟨0, _⟩ => (if_neg (show ¬ (262144 : ℕ) = 1 by decide)).symm
  unfold taken
  simp only [hw]
  have hok : ∀ i, (andi (cmpi .sge (broadcastInDim S262144x1 ![0] bcast_S262144_S262144x1_0 t) (broadcastInDim S262144x1 ![] bcast_S_S262144x1 (constantI S_ 32 0#32)))
    (cmpi .sle (broadcastInDim S262144x1 ![0] bcast_S262144_S262144x1_0 t) (broadcastInDim S262144x1 ![0, 1] bcast_S1x1_S262144x1_0_1 (broadcastInDim S1x1 ![1] bcast_S1_S1x1_1 (constantI S1 32 2047#32))))) i = 1#1 := by
    intro i
    have hi := h (ValueIdx.ix1 (i 0))
    refine IntOp.andi_eq_one.2 ⟨IntOp.cmpi_sge.2 ?_, IntOp.cmpi_sle.2 ?_⟩
    · rw [hb, toInt_of_small hi]
      exact Int.natCast_nonneg _
    · rw [hb, toInt_of_small hi]
      show ((t (ValueIdx.ix1 (i 0))).toNat : Int) ≤ (2047#32 : BitVec 32).toInt
      rw [show (2047#32 : BitVec 32).toInt = 2047 from by decide]
      omega
  show Scalar.select (Host.reduce IntOp.andi _ _ _ _ _) _ _ = _
  rw [Host.reduce_andi_one _ _ _ _ _ rfl hok]
  refine (gather_apply s _ b u q ?_).trans ?_
  · rw [hb]; exact h _
  · exact congrArg (fun e => s (ValueIdx.ix3 b u e)) (Fin.ext (congrArg BitVec.toNat (hb _)))

end Cert.Proof.Reference
-- ==== Proof.RefValue.lean ====
/-
  The reference's run: the arrays its loop carries after any number of trips, and what the claims read at the end.
-/
module

public import proofs.«01_k».proof.Proof.RefReads

@[expose] public section

noncomputable section

namespace Cert.Proof.Reference

open Cert.ReferenceIdeal Cert.ReferenceIdeal.Gen Cert.ReferenceIdeal.Value
open Idealize.ShloMosaic Idealize.ShloMosaic.TcCoe Cert.Proof.Sums Cert.Proof.Delay
open Idealize.ShloMosaic.StableHlo
open Idealize.SL Idealize.SL.Sem

variable {F : FTy → Type} [FloatOps F]

/-! ## What a stretch leaves as it was -/

/-- No operation of the loop writes this array. -/
def Untouched (r : Ref sig .tc) : Prop :=
  r ∉ condOps_W ∧ r ∉ while0Ops0_W ∧ r ∉ while0Ops0_1_W ∧ r ∉ while0Ops0_2_W ∧ r ∉ while0Ops0_3_W ∧ r ∉ while0Ops0_4_W

instance (r : Ref sig .tc) : Decidable (Untouched r) := inferInstanceAs (Decidable (_ ∧ _))

theorem cond_keeps {r : Ref sig .tc} (h : r ∉ condOps_W) (X : Valuation τ sig (Elt F)) :
    after condOps X (Proc.devRef .tc r) = X (Proc.devRef .tc r) := after_of_writes_sub condOps X condOps_writes h
theorem keeps0 {r : Ref sig .tc} (h : r ∉ while0Ops0_W) (X : Valuation τ sig (Elt F)) :
    after while0Ops0 X (Proc.devRef .tc r) = X (Proc.devRef .tc r) := after_of_writes_sub while0Ops0 X while0Ops0_writes h
theorem keeps1 {r : Ref sig .tc} (h : r ∉ while0Ops0_1_W) (X : Valuation τ sig (Elt F)) :
    after while0Ops0_1 X (Proc.devRef .tc r) = X (Proc.devRef .tc r) := after_of_writes_sub while0Ops0_1 X while0Ops0_1_writes h
theorem keeps2 {r : Ref sig .tc} (h : r ∉ while0Ops0_2_W) (X : Valuation τ sig (Elt F)) :
    after while0Ops0_2 X (Proc.devRef .tc r) = X (Proc.devRef .tc r) := after_of_writes_sub while0Ops0_2 X while0Ops0_2_writes h
theorem keeps3 {r : Ref sig .tc} (h : r ∉ while0Ops0_3_W) (X : Valuation τ sig (Elt F)) :
    after while0Ops0_3 X (Proc.devRef .tc r) = X (Proc.devRef .tc r) := after_of_writes_sub while0Ops0_3 X while0Ops0_3_writes h
theorem keeps4 {r : Ref sig .tc} (h : r ∉ while0Ops0_4_W) (X : Valuation τ sig (Elt F)) :
    after while0Ops0_4 X (Proc.devRef .tc r) = X (Proc.devRef .tc r) := after_of_writes_sub while0Ops0_4 X while0Ops0_4_writes h

variable (m : (ℓ : Loc nD τ sig) → Buf (Elt F) ℓ) (ρ : Dev nD → PrngReg)

/-- An array the loop does not write is as at the loop's entry. -/
theorem atK_keeps {r : Ref sig .tc} (h : Untouched r) (c : Dev nD) :
    ∀ k, atK m k c (Proc.devRef .tc r) = entryContents preI m c (Proc.devRef .tc r)
  | 0 => rfl
  | k + 1 => by
    rw [show atK m (k + 1) c = afterL bodyI (after condOps (atK m k c)) from rfl]
    simp only [afterL_cons, afterL_nil]
    rw [keeps4 h.2.2.2.2.2, keeps3 h.2.2.2.2.1, keeps2 h.2.2.2.1, keeps1 h.2.2.1, keeps0 h.2.1, cond_keeps h.1, atK_keeps h c k]
    rfl

theorem final_keeps {r : Ref sig .tc} (h : Untouched r) (c : Dev nD) :
    finalContents condOps preI bodyI postI 512 m c (Proc.devRef .tc r) = entryContents preI m c (Proc.devRef .tc r) :=
  (cond_keeps h.1 _).trans (atK_keeps m h c 512)

/-! ## The arrays at the loop's entry -/

theorem entry_arg {r : Ref sig .tc} (h : r ∉ hostOps0_W) (c : Dev nD) :
    entryContents preI m c (Proc.devRef .tc r) = m ((c.tc : Thread nD τ).loc r) :=
  after_of_writes_sub hostOps0 (launchContents m c) hostOps0_writes h

theorem entry_mask (c : Dev nD) : entryContents preI m c (Proc.devRef .tc main_v10_0) = m ((c.tc : Thread nD τ).loc main_arg1) := by
  simp only [entryContents, afterL_cons, afterL_nil]
  after_reads_simp
  rfl

theorem entry_data (c : Dev nD) (n : Fin 512) (b : Fin 4) (u : Fin 2) (t : Fin 2048) :
    (entryContents preI m c (Proc.devRef .tc main_v10_1) : S512x4x2x2048.Idx → F .f32) (ValueIdx.ix4 n b u t)
      = (m ((c.tc : Thread nD τ).loc main_arg0) : S4x2x512x2048.Idx → F .f32) (ValueIdx.ix4 b u n t) := by
  simp only [entryContents, afterL_cons, afterL_nil]
  after_reads_simp
  exact transpose_apply [2, 0, 1, 3] (m ((c.tc : Thread nD τ).loc main_arg0) : S4x2x512x2048.Idx → F .f32)
    transposes_S4x2x512x2048_S512x4x2x2048_2_0_1_3 (ValueIdx.ix4 n b u t) (ValueIdx.ix4 b u n t) fun e => match e with
      | ⟨0, _⟩ => rfl
      | ⟨1, _⟩ => rfl
      | ⟨2, _⟩ => rfl
      | ⟨3, _⟩ => rfl

theorem entry_rows (c : Dev nD) (i : Fin 512) :
    (entryContents preI m c (Proc.devRef .tc main_v10_2) : S512x1.Idx → F .f32) (ValueIdx.ix2 i 0)
      = FloatOps.addf one (FloatOps.sitofp .f32 (BitVec.ofNat 32 i.val)) := by
  simp only [entryContents, afterL_cons, afterL_nil]
  after_reads_at
  rfl

theorem entry_cols (c : Dev nD) (j : Fin 512) :
    (entryContents preI m c (Proc.devRef .tc main_v10_3) : S1x512.Idx → F .f32) (ValueIdx.ix2 0 j)
      = FloatOps.addf one (FloatOps.sitofp .f32 (BitVec.ofNat 32 j.val)) := by
  simp only [entryContents, afterL_cons, afterL_nil]
  after_reads_at
  rfl

/-- The image before the first sensor. -/
def blank : F .f32 := FloatOps.ofBits .f32 0x00000000#32

theorem entry_image (c : Dev nD) (z : S4x2x512x512.Idx) :
    (entryContents preI m c (Proc.devRef .tc main_v10_5) : S4x2x512x512.Idx → F .f32) z = blank := by
  simp only [entryContents, afterL_cons, afterL_nil]
  after_reads_at
  rfl

/-! ## The image after `k` sensors -/

/-- The delay of pixel `(i, j)` from sensor `n`, from the sensors' coordinates. -/
def lag (a : S512x2.Idx → BitVec 32) (n : ℕ) (i j : ℕ) : BitVec 32 :=
  delay (F := F) (apart (a (ValueIdx.ix2 (Fin.ofNat 512 n) 0)) i) (apart (a (ValueIdx.ix2 (Fin.ofNat 512 n) 1)) j)

/-- The samples of the first `k` sensors at their delays, summed in order. -/
def image (s : S4x2x512x2048.Idx → F .f32) (a : S512x2.Idx → BitVec 32) (k : ℕ) : S4x2x512x512.Idx → F .f32 := fun z =>
  chain blank (fun n => s (ValueIdx.ix4 (z 0) (z 1) (Fin.ofNat 512 n) (Fin.ofNat 2048 (lag (F := F) a n (z 2).val (z 3).val).toNat))) k

theorem counter (c : Dev nD) (k : ℕ) : atK m k c (Proc.devRef .tc main_v10_4) = fun _ => BitVec.ofNat 32 k := by
  rw [atK_ctr]
  funext _
  unfold Scf.iv
  rw [BitVec.zero_add, BitVec.mul_one]

theorem ofNat_self {n N : ℕ} [NeZero N] (h : n < N) : Fin.ofNat N n = ⟨n, h⟩ := Fin.ext (Nat.mod_eq_of_lt h)

/-- The loop's delays are the sensor's. -/
theorem delays_apply (c : Dev nD) {k : ℕ} (hk : k < 512) (i j : Fin 512) :
    delays (coords (m ((c.tc : Thread nD τ).loc main_arg1)) (BitVec.ofNat 32 k) (ValueIdx.ix1 0))
        (coords (m ((c.tc : Thread nD τ).loc main_arg1)) (BitVec.ofNat 32 k) (ValueIdx.ix1 1))
        (entryContents preI m c (Proc.devRef .tc main_v10_2)) (entryContents preI m c (Proc.devRef .tc main_v10_3)) (ValueIdx.ix2 i j)
      = lag (F := F) (m ((c.tc : Thread nD τ).loc main_arg1)) k i.val j.val := by
  rw [coords_apply _ hk, coords_apply _ hk]
  unfold delays lag apart
  rw [ofNat_self hk]
  exact congrArg₂ (fun u v => delay (FloatOps.addf (FloatOps.subf (FloatOps.sitofp .f32 _) u) one) (FloatOps.addf (FloatOps.subf (FloatOps.sitofp .f32 _) v) one))
    (entry_rows m c i) (entry_cols m c j)

/-- What trip `k` adds to an image element. -/
theorem term (c : Dev nD) {k : ℕ} (hk : k < 512)
    (hd : ∀ i < 512, ∀ j < 512, (lag (F := F) (m ((c.tc : Thread nD τ).loc main_arg1)) k i j).toNat < 2048) (z : S4x2x512x512.Idx) :
    shapeCast S4x2x512x512 (taken (samples (entryContents preI m c (Proc.devRef .tc main_v10_1)) (BitVec.ofNat 32 k))
        (shapeCast S262144 (delays (coords (m ((c.tc : Thread nD τ).loc main_arg1)) (BitVec.ofNat 32 k) (ValueIdx.ix1 0))
            (coords (m ((c.tc : Thread nD τ).loc main_arg1)) (BitVec.ofNat 32 k) (ValueIdx.ix1 1))
            (entryContents preI m c (Proc.devRef .tc main_v10_2)) (entryContents preI m c (Proc.devRef .tc main_v10_3)))
          shapeCasts_S512x512_S262144)) shapeCasts_S4x2x262144_S4x2x512x512 z
      = (m ((c.tc : Thread nD τ).loc main_arg0) : S4x2x512x2048.Idx → F .f32) (ValueIdx.ix4 (z 0) (z 1) (Fin.ofNat 512 k)
          (Fin.ofNat 2048 (lag (F := F) (m ((c.tc : Thread nD τ).loc main_arg1)) k (z 2).val (z 3).val).toNat)) := by
  have hl := fun q => flat_lt (delays (coords (m ((c.tc : Thread nD τ).loc main_arg1)) (BitVec.ofNat 32 k) (ValueIdx.ix1 0))
      (coords (m ((c.tc : Thread nD τ).loc main_arg1)) (BitVec.ofNat 32 k) (ValueIdx.ix1 1))
      (entryContents preI m c (Proc.devRef .tc main_v10_2)) (entryContents preI m c (Proc.devRef .tc main_v10_3)))
    (fun y => by
      rw [ValueIdx.eq_ix2 y]
      exact (congrArg BitVec.toNat (delays_apply m c hk (y 0) (y 1))).trans_lt (hd _ (y 0).isLt _ (y 1).isLt)) q
  refine (unflat_apply _ z).trans ((taken_apply _ _ hl (z 0) (z 1) (flat (z 2) (z 3))).trans ?_)
  refine (samples_apply _ hk _ _ _).trans ((entry_data m c _ _ _ _).trans ?_)
  rw [ofNat_self hk]
  refine congrArg (fun t => (m ((c.tc : Thread nD τ).loc main_arg0) : S4x2x512x2048.Idx → F .f32) (ValueIdx.ix4 (z 0) (z 1) ⟨k, hk⟩ t)) (Fin.ext ?_)
  refine (congrArg BitVec.toNat ((flat_apply _ (z 2) (z 3)).trans (delays_apply m c hk (z 2) (z 3)))).trans ?_
  exact (Nat.mod_eq_of_lt (hd _ (z 2).isLt _ (z 3).isLt)).symm

/-- If every delay is in range, the image after `k` trips is that of the first `k` sensors. -/
theorem atK_image (c : Dev nD)
    (hd : ∀ n < 512, ∀ i < 512, ∀ j < 512, (lag (F := F) (m ((c.tc : Thread nD τ).loc main_arg1)) n i j).toNat < 2048) :
    ∀ k ≤ 512, atK m k c (Proc.devRef .tc main_v10_5)
      = image (m ((c.tc : Thread nD τ).loc main_arg0)) (m ((c.tc : Thread nD τ).loc main_arg1)) k
  | 0, _ => funext fun z => entry_image m c z
  | k + 1, hk => by
    have hk' : k < 512 := by omega
    have ih := atK_image c hd k (by omega)
    have hc : ∀ {r : Ref sig .tc}, r ∉ condOps_W → after condOps (atK m k c) (Proc.devRef .tc r) = atK m k c (Proc.devRef .tc r) :=
      fun h => cond_keeps h _
    rw [show atK m (k + 1) c = afterL bodyI (after condOps (atK m k c)) from rfl]
    simp only [afterL_cons, afterL_nil]
    have n0 : after condOps (atK m k c) (Proc.devRef .tc main_v10_4) = fun _ => BitVec.ofNat 32 k := by
      rw [hc (by decide), counter]
    rw [step4, step3, keeps3 (by decide), keeps2 (by decide), keeps1 (by decide), keeps0 (by decide), hc (by decide), ih,
      step2, keeps2 (by decide), step1 _ (BitVec.ofNat 32 k) (by rw [keeps0 (by decide), n0]), keeps1 (by decide), step0 _ (BitVec.ofNat 32 k) n0,
      keeps1 (by decide), keeps1 (by decide), keeps0 (by decide), keeps0 (by decide), keeps0 (by decide),
      hc (by decide), hc (by decide), hc (by decide), hc (by decide),
      atK_keeps m (r := main_v10_0) (by decide), atK_keeps m (r := main_v10_1) (by decide), atK_keeps m (r := main_v10_2) (by decide),
      atK_keeps m (r := main_v10_3) (by decide), entry_mask]
    refine funext fun (z : S4x2x512x512.Idx) => ?_
    exact congrArg (FloatOps.addf (image (m ((c.tc : Thread nD τ).loc main_arg0)) (m ((c.tc : Thread nD τ).loc main_arg1)) k z))
      (term m c hk' (hd k hk') z)

/-! ## The run -/

/-- Every run leaves the arguments unchanged and every counter at zero. -/
theorem run_frame : θ_run (Cert.ReferenceIdeal.defs (F := F)) (onTc (τ := τ) (Cert.ReferenceIdeal.main (F := F))) ⟨m, fun _ => 0, ρ⟩
    (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) :=
  (θ_run _ _ _).mono (fun r h => ⟨fun c =>
      ⟨(h c main_arg0 (by decide)).trans ((final_keeps m (by decide) c).trans (entry_arg m (by decide) c)),
        (h c main_arg1 (by decide)).trans ((final_keeps m (by decide) c).trans (entry_arg m (by decide) c))⟩,
      sem_eq_zero_of_no_sems (by decide) r.2⟩) (run_fold m ρ)

/-- If every delay is in range, every run ends with the image of all the sensors. -/
theorem run_image
    (hd : ∀ c : Dev nD, ∀ n < 512, ∀ i < 512, ∀ j < 512, (lag (F := F) (m ((c.tc : Thread nD τ).loc main_arg1)) n i j).toNat < 2048) :
    θ_run (Cert.ReferenceIdeal.defs (F := F)) (onTc (τ := τ) (Cert.ReferenceIdeal.main (F := F))) ⟨m, fun _ => 0, ρ⟩
    (fun r => ∀ c : Dev nD,
        r.2.mem ((c.tc : Thread nD τ).loc main_v10_5)
          = image (m ((c.tc : Thread nD τ).loc main_arg0)) (m ((c.tc : Thread nD τ).loc main_arg1)) 512
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run _ _ _).mono (fun r h c =>
      ⟨(h c main_v10_5 (by decide)).trans ((cond_keeps (by decide) _).trans (atK_image m c (hd c) 512 (Nat.le_refl _))),
        (h c main_arg0 (by decide)).trans ((final_keeps m (by decide) c).trans (entry_arg m (by decide) c)),
        (h c main_arg1 (by decide)).trans ((final_keeps m (by decide) c).trans (entry_arg m (by decide) c))⟩) (run_fold m ρ)

end Cert.Proof.Reference
-- ==== Proof.Delays.lean ====
/-
  The delays over the extended reals: the distance the table's row has and the one the image's pixel has are the same number, and a
  delay on the grid is one of the 2048 samples.
-/
module

public import proofs.«01_k».proof.Proof.Delay
public import Idealize.ShloMosaic.PureOps.Ideal
public import Idealize.ShloMosaic.PureOps.Ideal.Laws
public import Idealize.ShloMosaic.Lib.IdealHost

@[expose] public section

noncomputable section

namespace Cert.Proof.Delay

open Idealize.ShloMosaic Idealize.ShloMosaic.ValueIdx

theorem one_ideal : (one : Ideal .f32) = ((1 : ℝ) : EReal) := by
  show Ideal.ofBits .f32 0x3F800000#32 = _
  rw [Ideal.ofBits_one_f32, EReal.coe_one]

theorem step_ideal : (step : Ideal .f32) = ((13743895 / 2 ^ 37 : ℝ) : EReal) := by
  show Ideal.ofBits .f32 0x38D1B717#32 = _
  simp [Ideal.ofBits, Ideal.ieee, -EReal.coe_mul]
  norm_num

theorem speed_ideal : (speed : Ideal .f32) = ((1550 : ℝ) : EReal) := by
  show Ideal.ofBits .f32 0x44C1C000#32 = _
  simp [Ideal.ofBits, Ideal.ieee, -EReal.coe_mul]
  norm_num

theorem tick_ideal : (tick : Ideal .f32) = ((14073749 / 2 ^ 49 : ℝ) : EReal) := by
  show Ideal.ofBits .f32 0x32D6BF95#32 = _
  simp [Ideal.ofBits, Ideal.ieee, -EReal.coe_mul]
  norm_num

theorem shift_ideal : (shift : Ideal .f32) = ((511 : ℝ) : EReal) := by
  show Ideal.ofBits .f32 0x43FF8000#32 = _
  simp [Ideal.ofBits, Ideal.ieee, -EReal.coe_mul]
  norm_num

theorem sitofp_ideal (b : BitVec 32) : (FloatOps.sitofp .f32 b : Ideal .f32) = ((b.toInt : ℝ) : EReal) := rfl

theorem toInt_ofNat {n : ℕ} (h : n < 2 ^ 31) : (BitVec.ofNat 32 n).toInt = n := by
  rw [BitVec.toInt_ofNat']
  exact Int.bmod_eq_of_le (by omega) (by omega)

/-- A coordinate's distance from pixel `j` is their difference. -/
theorem apart_ideal (x : BitVec 32) {j : ℕ} (hj : j < 512) : (apart x j : Ideal .f32) = ((x.toInt - j : ℝ) : EReal) := by
  unfold apart
  rw [Ideal.addf_def, Ideal.subf_def, Ideal.addf_def, sitofp_ideal, sitofp_ideal, one_ideal, toInt_ofNat (by omega), ← EReal.coe_add, ← EReal.coe_sub,
    ← EReal.coe_add]
  congr 1
  push_cast
  ring

/-- A table row's distance is the coordinate plus the row's offset from row 511. -/
theorem offset_ideal (x : BitVec 32) {r : ℕ} (hr : r < 1024) : (offset x r : Ideal .f32) = ((x.toInt + (r - 511) : ℝ) : EReal) := by
  unfold offset
  rw [Ideal.addf_def, Ideal.subf_def, sitofp_ideal, sitofp_ideal, shift_ideal, toInt_ofNat (by omega), ← EReal.coe_sub, ← EReal.coe_add]
  rfl

/-- The table row of sensor `c` and pixel `i` has their distance, where sensor `c` stands `c` steps beyond sensor 0. -/
theorem offset_apart {x y : BitVec 32} {c i : ℕ} (hc : c < 512) (hi : i < 512) (hxy : y.toInt = x.toInt + c) :
    (offset x (c + 511 - i) : Ideal .f32) = apart y i := by
  rw [offset_ideal x (by omega), apart_ideal y hi, hxy]
  congr 1
  rw [Nat.cast_sub (by omega)]
  push_cast
  ring

/-- A delay of two distances of at most 512 steps is below 2048 samples. -/
theorem delay_lt {u v : ℝ} (hu : |u| ≤ 512) (hv : |v| ≤ 512) : (delay (F := Ideal) (u : EReal) (v : EReal)).toNat < 2048 := by
  have hq : (u * (13743895 / 2 ^ 37)) * (u * (13743895 / 2 ^ 37)) + (v * (13743895 / 2 ^ 37)) * (v * (13743895 / 2 ^ 37)) ≤ (0.0725 : ℝ) ^ 2 := by
    have h1 : u * u ≤ 512 * 512 := by nlinarith [abs_le.mp hu]
    have h2 : v * v ≤ 512 * 512 := by nlinarith [abs_le.mp hv]
    nlinarith
  have hq0 : 0 ≤ (u * (13743895 / 2 ^ 37)) * (u * (13743895 / 2 ^ 37)) + (v * (13743895 / 2 ^ 37)) * (v * (13743895 / 2 ^ 37)) :=
    add_nonneg (mul_self_nonneg _) (mul_self_nonneg _)
  unfold delay
  rw [Ideal.mulf_def, Ideal.mulf_def, Ideal.mulf_def, Ideal.mulf_def, Ideal.addf_def, Ideal.hostUnary_sqrt_def, Ideal.hostDivf_def, Ideal.hostDivf_def,
    step_ideal, speed_ideal, tick_ideal, ← EReal.coe_mul, ← EReal.coe_mul, ← EReal.coe_mul, ← EReal.coe_mul, ← EReal.coe_add]
  generalize (u * (13743895 / 2 ^ 37)) * (u * (13743895 / 2 ^ 37)) + (v * (13743895 / 2 ^ 37)) * (v * (13743895 / 2 ^ 37)) = q at hq hq0 ⊢
  rw [Ideal.sqrt_coe, if_neg (not_lt.mpr hq0), Ideal.div_coe (by norm_num), Ideal.div_coe (by norm_num), ← EReal.coe_mul, ← EReal.coe_mul]
  show (Ideal.fptosi 32 _).toNat < 2048
  have hs : Real.sqrt q ≤ 0.0725 := Real.sqrt_le_iff.mpr ⟨by norm_num, hq⟩
  have hs0 : 0 ≤ Real.sqrt q := Real.sqrt_nonneg q
  generalize Real.sqrt q = w at hs hs0
  have hr : w * (1 / 1550) * (1 / (14073749 / 2 ^ 49)) < (2048 : ℤ) := by
    push_cast
    nlinarith
  have hr0 : 0 ≤ w * (1 / 1550) * (1 / (14073749 / 2 ^ 49)) := by positivity
  generalize w * (1 / 1550) * (1 / (14073749 / 2 ^ 49)) = t at hr hr0
  have h1 : ⌊t⌋ < 2048 := Int.floor_lt.mpr hr
  have h0 : 0 ≤ ⌊t⌋ := Int.floor_nonneg.mpr hr0
  unfold Ideal.fptosi
  rw [Ideal.toIntClamped_coe, if_pos hr0]
  generalize ⌊t⌋ = n at h0 h1
  rw [BitVec.toNat_ofInt]
  omega

end Cert.Proof.Delay
-- ==== Proof.Match.lean ====
/-
  The two values meet: what the precondition says of the sensors' coordinates, and that under it the kernel's result is the
  reference's image.
-/
module

public import proofs.«01_k».proof.Proof.Delays
public import proofs.«01_k».proof.Proof.KernelIdealLaunch
public import proofs.«01_k».proof.Proof.RefValue
public import proofs.«01_k».proof.Pre_linear_array
public import Idealize.ShloMosaic.Lib.ReduceAll

@[expose] public section

noncomputable section

namespace Cert.Proof.Match

open Idealize.ShloMosaic Cert.Proof.Sums Cert.Proof.Delay

/-- The sensors' coordinates: sensor `c` at column `c + 1` of one row between 1 and 512. -/
structure Linear (a : (⟨2, ![512, 2]⟩ : Shape).Idx → BitVec 32) : Prop where
  col : ∀ c : Fin 512, (a (ValueIdx.ix2 c 0)).toInt = c.val + 1
  row : ∀ c : Fin 512, a (ValueIdx.ix2 c 1) = a (ValueIdx.ix2 0 1)
  low : 1 ≤ (a (ValueIdx.ix2 0 1)).toInt
  high : (a (ValueIdx.ix2 0 1)).toInt ≤ 512

section Pre
open Cert.Pre_linear_array Cert.Pre_linear_array.Facts

variable [Cert.Pre_linear_array.Facts]

/-- A column of the coordinates, read at one sensor. -/
theorem column (a : S512x2.Idx → BitVec 32) (q : Fin 2) (h : S512x2.Slices ![0, q.val] S512x1) (c : Fin 512) :
    shapeCast S512 (extractStridedSlice S512x1 ![0, q.val] a h) shapeCasts_S512x1_S512 (ValueIdx.ix1 c) = a (ValueIdx.ix2 c q) := by
  refine (shapeCast_apply (extractStridedSlice S512x1 ![0, q.val] a h) shapeCasts_S512x1_S512 (ValueIdx.ix1 c) (ValueIdx.ix2 c 0) ?_).trans ?_
  · rw [Shape.rowMajor_val_one, Shape.rowMajor_val_two]
    show c.val * 1 + 0 = c.val
    omega
  · refine congrArg a (funext fun e => Fin.ext ?_)
    match e with
    | ⟨0, _⟩ => exact Nat.zero_add _
    | ⟨1, _⟩ => exact Nat.add_zero _

/-- The coordinates' columns as the precondition takes them. -/
def xs (a : S512x2.Idx → BitVec 32) : S512.Idx → BitVec 32 :=
  shapeCast S512 (extractStridedSlice S512x1 ![0, 0] a slices_S512x2_S512x1_0_0) shapeCasts_S512x1_S512
def ys (a : S512x2.Idx → BitVec 32) : S512.Idx → BitVec 32 :=
  shapeCast S512 (extractStridedSlice S512x1 ![0, 1] a slices_S512x2_S512x1_0_1) shapeCasts_S512x1_S512

theorem xs_apply (a : S512x2.Idx → BitVec 32) (c : Fin 512) : xs a (ValueIdx.ix1 c) = a (ValueIdx.ix2 c 0) := column a 0 slices_S512x2_S512x1_0_0 c
theorem ys_apply (a : S512x2.Idx → BitVec 32) (c : Fin 512) : ys a (ValueIdx.ix1 c) = a (ValueIdx.ix2 c 1) := column a 1 slices_S512x2_S512x1_0_1 c

/-- The first element, taken as a slice of length one and reshaped to a scalar. -/
theorem first (w : S512.Idx → BitVec 32) (j : S_.Idx) :
    shapeCast S_ (extractStridedSlice S1 ![0] w slices_S512_S1_0) shapeCasts_S1_S_ j = w (ValueIdx.ix1 0) := by
  refine congrArg w (funext fun e => Fin.ext ?_)
  match e with
  | ⟨0, _⟩ => exact (Nat.zero_add _).trans (Nat.lt_one_iff.mp (Fin.isLt _))

/-- The precondition at one sensor. -/
theorem at_sensor {F : FTy → Type} [FloatOps F] (s : S4x2x512x2048.Idx → F .f32) (a : S512x2.Idx → BitVec 32)
    (h : Cert.Pre_linear_array.fn (F := F) s a = fun _ => 1#1) (c : Fin 512) :
    IntOp.andi (IntOp.andi (IntOp.andi (IntOp.cmpi .eq (xs a (ValueIdx.ix1 c)) (IntOp.addi 1#32 (BitVec.ofNat 32 c.val)))
        (IntOp.cmpi .eq (ys a (ValueIdx.ix1 c))
          (broadcastInDim S512 ![] bcast_S_S512 (shapeCast S_ (extractStridedSlice S1 ![0] (ys a) slices_S512_S1_0) shapeCasts_S1_S_) (ValueIdx.ix1 c))))
        (IntOp.cmpi .sge (ys a (ValueIdx.ix1 c)) 1#32))
      (IntOp.cmpi .sle (ys a (ValueIdx.ix1 c)) 512#32) = 1#1 := by
  haveI : Subsingleton S_.Idx := ⟨fun p q => funext fun e => e.elim0⟩
  exact Host.reduce_andi_all _ _ reducesTo_S512_S_d0 h_S_ (Shape.Idx.first h_S_) (congrFun h _) (ValueIdx.ix1 c)

/-- The precondition says that the sensors stand in a linear array. -/
theorem linear_of_pre {F : FTy → Type} [FloatOps F] (s : S4x2x512x2048.Idx → F .f32) (a : S512x2.Idx → BitVec 32)
    (h : Cert.Pre_linear_array.fn (F := F) s a = fun _ => 1#1) : Linear a := by
  have key : ∀ c : Fin 512, a (ValueIdx.ix2 c 0) = IntOp.addi 1#32 (BitVec.ofNat 32 c.val) ∧ a (ValueIdx.ix2 c 1) = a (ValueIdx.ix2 0 1)
      ∧ (1#32).toInt ≤ (a (ValueIdx.ix2 c 1)).toInt ∧ (a (ValueIdx.ix2 c 1)).toInt ≤ (512#32).toInt := fun c => by
    obtain ⟨h3, h4⟩ := IntOp.andi_eq_one.1 (at_sensor s a h c)
    obtain ⟨h2, h3⟩ := IntOp.andi_eq_one.1 h3
    obtain ⟨h1, h2⟩ := IntOp.andi_eq_one.1 h2
    have h1 := IntOp.cmpi_eq.1 h1
    have h2 := IntOp.cmpi_eq.1 h2
    have h3 := IntOp.cmpi_sge.1 h3
    have h4 := IntOp.cmpi_sle.1 h4
    rw [xs_apply] at h1
    rw [ys_apply] at h2 h3 h4
    exact ⟨h1, h2.trans ((first (ys a) _).trans (ys_apply a 0)), h3, h4⟩
  refine ⟨fun c => ?_, fun c => (key c).2.1, (key 0).2.2.1, (key 0).2.2.2⟩
  rw [(key c).1]
  have hc := c.isLt
  show ((1#32 : BitVec 32) + BitVec.ofNat 32 c.val).toInt = _
  rw [show (1#32 : BitVec 32) + BitVec.ofNat 32 c.val = BitVec.ofNat 32 (1 + c.val) from (BitVec.ofNat_add 1 c.val).symm,
    toInt_ofNat (by omega)]
  push_cast
  omega

end Pre

open Cert.KernelIdeal

variable {a : S512x2.Idx → BitVec 32}

/-- Every delay is that of two distances of at most 512 steps. -/
theorem lag_lt (ha : Linear a) {n i j : ℕ} (hn : n < 512) (hi : i < 512) (hj : j < 512) :
    (Cert.Proof.Reference.lag (F := Ideal) a n i j).toNat < 2048 := by
  unfold Cert.Proof.Reference.lag
  rw [apart_ideal _ hi, apart_ideal _ hj, ha.col, ha.row]
  have hm : (Fin.ofNat 512 n).val = n := Nat.mod_eq_of_lt hn
  have h1 : (1 : ℝ) ≤ ((a (ValueIdx.ix2 0 1)).toInt : ℝ) := by exact_mod_cast ha.low
  have h2 : ((a (ValueIdx.ix2 0 1)).toInt : ℝ) ≤ 512 := by exact_mod_cast ha.high
  have hn' : (n : ℝ) ≤ 511 := by exact_mod_cast (by omega : n ≤ 511)
  have hi' : (i : ℝ) ≤ 511 := by exact_mod_cast (by omega : i ≤ 511)
  have hj' : (j : ℝ) ≤ 511 := by exact_mod_cast (by omega : j ≤ 511)
  refine delay_lt (abs_le.mpr ⟨?_, ?_⟩) (abs_le.mpr ⟨?_, ?_⟩) <;> (try rw [hm]) <;> push_cast <;>
    linarith [Nat.cast_nonneg (α := ℝ) n, Nat.cast_nonneg (α := ℝ) i, Nat.cast_nonneg (α := ℝ) j]

/-- The table's entry for sensor `n` and pixel `(i, j)` is their delay. -/
theorem table_lag (ha : Linear a) {n i j : ℕ} (hn : n < 512) (hi : i < 512) (hj : j < 512) :
    table (F := Ideal) a (at2 (n + 511 - i) j) = Cert.Proof.Reference.lag (F := Ideal) a n i j := by
  have hm : (Fin.ofNat 512 n).val = n := Nat.mod_eq_of_lt hn
  have e : delay (F := Ideal) (offset (a (ValueIdx.ix2 0 0)) (n + 511 - i)) (apart (a (ValueIdx.ix2 0 1)) j)
      = Cert.Proof.Reference.lag (F := Ideal) a n i j := by
    unfold Cert.Proof.Reference.lag
    rw [ha.row (Fin.ofNat 512 n), offset_apart hn hi (y := a (ValueIdx.ix2 (Fin.ofNat 512 n) 0))]
    rw [ha.col, ha.col, hm]
    simp only [Fin.val_zero]
    push_cast
    ring
  unfold table
  rw [at2_0 (by omega), at2_1 hj, e]
  exact clip_of_lt (lag_lt ha hn hi hj)

/-- On a linear array the kernel's result is the reference's image. -/
theorem value_eq_image (s : S4x2x512x2048.Idx → Ideal .f32) (ha : Linear a) :
    Cert.Proof.KernelIdeal.value (F := Ideal) s a = Cert.Proof.Reference.image s a 512 := by
  refine funext fun (z : S4x2x512x512.Idx) => ?_
  have h0 : (z 0).val < 4 := (z 0).isLt
  have h1 : (z 1).val < 2 := (z 1).isLt
  have h2 : (z 2).val < 512 := (z 2).isLt
  have h3 : (z 3).val < 512 := (z 3).isLt
  unfold Cert.Proof.KernelIdeal.value
  refine (shapeCast_apply _ _ z (ValueIdx.ix3 (⟨(z 0).val * 2 + (z 1).val, by omega⟩ : Fin 8) (z 2) (z 3)) ?_).trans ?_
  · rw [Shape.rowMajor_val_three, Shape.rowMajor_val_four]
    rfl
  show chain _ _ 512 = chain _ _ 512
  rw [show (Cert.Proof.KernelIdeal.zero : Ideal .f32) = Cert.Proof.Reference.blank from rfl]
  refine chain_congr _ _ fun n hn => ?_
  show shapeCast S8x512x2048 s _ (at3 ((z 0).val * 2 + (z 1).val) n (table (F := Ideal) a (at2 (n + 511 - (z 2).val) (z 3).val)).toNat) = _
  rw [table_lag ha hn h2 h3]
  have hl := lag_lt ha hn h2 h3
  generalize (Cert.Proof.Reference.lag (F := Ideal) a n (z 2).val (z 3).val).toNat = t at hl ⊢
  refine shapeCast_apply s _ _ (ValueIdx.ix4 (z 0) (z 1) (Fin.ofNat 512 n) (Fin.ofNat 2048 t)) ?_
  rw [Shape.rowMajor_val_three, Shape.rowMajor_val_four]
  rw [at3_0 (by omega), at3_1 hn, at3_2 hl]
  show (((z 0).val * 2 + (z 1).val) * 512 + n % 512) * 2048 + t % 2048 = _
  rw [Nat.mod_eq_of_lt hn, Nat.mod_eq_of_lt hl]
  rfl

end Cert.Proof.Match
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_linear_array
public import proofs.«01_k».proof.Proof.KernelLaunch
public import proofs.«01_k».proof.Proof.KernelIdealLaunch
public import proofs.«01_k».proof.Proof.RefValue
public import proofs.«01_k».proof.Proof.Match
public import Idealize.ShloMosaic.Adequacy
public import Idealize.ShloMosaic.Init

@[expose] public section

noncomputable section

namespace Cert.Proof

open Idealize.ShloMosaic Idealize.SL.Sem Cert.Kernel

attribute [local instance] Cert.Kernel.Gen.facts Cert.KernelIdeal.Gen.facts Cert.ReferenceIdeal.Gen.facts Cert.Pre_linear_array.Gen.facts

/-- The kernel over words runs, leaves its arguments unchanged and every counter at zero. -/
theorem kernel_frame : Cert.quiescent_Kernel := fun m g _ =>
  (θ_run _ _ _).mono (fun _ h => ⟨fun c => ⟨(h.1 c).1, (h.1 c).2.1⟩, h.2⟩) (Cert.Proof.Kernel.run_main m g)

/-- The kernel over the extended reals runs, leaves its arguments unchanged and every counter at zero. -/
theorem ideal_frame : Cert.quiescent_KernelIdeal := fun m g _ =>
  (θ_run _ _ _).mono (fun _ h => ⟨fun c => ⟨(h.1 c).1, (h.1 c).2.1⟩, h.2⟩) (Cert.Proof.KernelIdeal.run_main m g)

/-- The reference runs, leaves its arguments unchanged and every counter at zero. -/
theorem reference_frame : Cert.quiescent_ReferenceIdeal := fun m g _ => Cert.Proof.Reference.run_frame m g

/-- On a linear array of sensors the kernel and the reference end with the same image. -/
theorem same_image : Cert.algebraic_KernelIdeal_ReferenceIdeal_pre_linear_array := fun m g m' g' hpre hargs => by
  have hl := fun c => Cert.Proof.Match.linear_of_pre _ _ (hpre c)
  refine ⟨fun c => Cert.Proof.KernelIdeal.value (F := Idealize.ShloMosaic.Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run _ _ _).mono (fun _ h c => ⟨(h.1 c).2.2, (h.1 c).1, (h.1 c).2.1⟩) (Cert.Proof.KernelIdeal.run_main m g)
  refine (θ_run _ _ _).mono (fun _ h c => ⟨(h c).1.trans ?_, (h c).2⟩) (Cert.Proof.Reference.run_image m' g' fun c n hn i hi j hj => ?_)
  · rw [(hargs c).2]
    exact Cert.Proof.Match.lag_lt (hl c) hn hi hj
  · rw [(hargs c).1, (hargs c).2]
    exact (Cert.Proof.Match.value_eq_image _ (hl c)).symm

theorem claim : Cert.Claim := ⟨Cert.Kernel.Gen.facts, Cert.KernelIdeal.Gen.facts, Cert.ReferenceIdeal.Gen.facts, Cert.Pre_linear_array.Gen.facts,
  kernel_frame, ideal_frame, fun m g _ => ideal_frame m g trivial, reference_frame, fun m g _ => reference_frame m g trivial, trivial, same_image⟩

end Cert.Proof

end
